-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_in_range [hPre_offsets_in_range : Cert.Pre_offsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_in_range [hPre_offsets_in_range : Cert.Pre_offsets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_offsets_in_range [hKernelIdeal : Cert.KernelIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_offsets_in_range [hReferenceIdeal : Cert.ReferenceIdeal.Facts] [hPre_offsets_in_range : Cert.Pre_offsets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_two_pi" .f32 0x3E22F983#32 ((2097152 / 13176795 : ℝ) : EReal)

def algebraic_KernelIdeal_ReferenceIdeal_pre_offsets_in_range [hKernelIdeal : Cert.KernelIdeal.Facts] [hReferenceIdeal : Cert.ReferenceIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_offsets_in_range : Cert.Pre_offsets_in_range.Facts),
    quiescent_Kernel (hKernel := hKernel)
    ∧ quiescent_KernelIdeal (hKernelIdeal := hKernelIdeal)
    ∧ quiescent_KernelIdeal_pre_offsets_in_range (hKernelIdeal := hKernelIdeal) (hPre_offsets_in_range := hPre_offsets_in_range)
    ∧ quiescent_ReferenceIdeal (hReferenceIdeal := hReferenceIdeal)
    ∧ quiescent_ReferenceIdeal_pre_offsets_in_range (hReferenceIdeal := hReferenceIdeal) (hPre_offsets_in_range := hPre_offsets_in_range)
    ∧ preserves_Kernel_KernelIdeal
    ∧ algebraic_KernelIdeal_ReferenceIdeal_pre_offsets_in_range (hKernelIdeal := hKernelIdeal) (hReferenceIdeal := hReferenceIdeal) (hPre_offsets_in_range := hPre_offsets_in_range)
-- ==== Pre_offsets_in_range.lean ====
abbrev S2x3x384x384 : Shape := ⟨4, ![2, 3, 384, 384]⟩
abbrev S2x9x192x192 : Shape := ⟨4, ![2, 9, 192, 192]⟩
abbrev S_ : Shape := ⟨0, ![]⟩

class Facts : Prop where
  bcast_S_S2x9x192x192 : S_.BroadcastsInDim S2x9x192x192 (![] : Fin 0 → Fin S2x9x192x192.rank)

variable [Facts]

def fn {F : FTy → Type} [FloatOps F] (main_arg0 : FVec F S2x3x384x384 .f32) (main_arg1 : FVec F S2x9x192x192 .f32) (main_arg2 : FVec F S2x9x192x192 .f32) (main_arg3 : FVec F S2x9x192x192 .f32) : IVec S2x9x192x192 1 :=
  let main_cst : FVec F S_ .f32 := constant S_ .f32 0x00000000#32
  let main_v0 : FVec F S2x9x192x192 .f32 := broadcastInDim S2x9x192x192 ![] bcast_S_S2x9x192x192 main_cst
  let main_v1 : IVec S2x9x192x192 1 := cmpf .oge main_arg2 main_v0
  let main_cst_0 : FVec F S_ .f32 := constant S_ .f32 0x40000000#32
  let main_v2 : FVec F S2x9x192x192 .f32 := broadcastInDim S2x9x192x192 ![] bcast_S_S2x9x192x192 main_cst_0
  let main_v3 : IVec S2x9x192x192 1 := cmpf .olt main_arg2 main_v2
  let main_v4 : IVec S2x9x192x192 1 := andi main_v1 main_v3
  let main_cst_1 : FVec F S_ .f32 := constant S_ .f32 0x00000000#32
  let main_v5 : FVec F S2x9x192x192 .f32 := broadcastInDim S2x9x192x192 ![] bcast_S_S2x9x192x192 main_cst_1
  let main_v6 : IVec S2x9x192x192 1 := cmpf .oge main_arg3 main_v5
  let main_v7 : IVec S2x9x192x192 1 := andi main_v4 main_v6
  let main_cst_2 : FVec F S_ .f32 := constant S_ .f32 0x40000000#32
  let main_v8 : FVec F S2x9x192x192 .f32 := broadcastInDim S2x9x192x192 ![] bcast_S_S2x9x192x192 main_cst_2
  let main_v9 : IVec S2x9x192x192 1 := cmpf .olt main_arg3 main_v8
  let main_v10 : IVec S2x9x192x192 1 := andi main_v7 main_v9
  main_v10
-- ==== Kernel.lean ====
abbrev S2x3x384x384 : Shape := ⟨4, ![2, 3, 384, 384]⟩
abbrev S2x9x192x192 : Shape := ⟨4, ![2, 9, 192, 192]⟩
abbrev S2x3x192x192 : Shape := ⟨4, ![2, 3, 192, 192]⟩
abbrev S1x3x384x384 : Shape := ⟨4, ![1, 3, 384, 384]⟩
abbrev S1x9x192x192 : Shape := ⟨4, ![1, 9, 192, 192]⟩
abbrev S1x3x192x192 : Shape := ⟨4, ![1, 3, 192, 192]⟩
abbrev S192x192 : Shape := ⟨2, ![192, 192]⟩
abbrev S1x1x384x384 : Shape := ⟨4, ![1, 1, 384, 384]⟩
abbrev S384x384 : Shape := ⟨2, ![384, 384]⟩
abbrev S384x192 : Shape := ⟨2, ![384, 192]⟩
abbrev S192 : Shape := ⟨1, ![192]⟩
abbrev S1x192 : Shape := ⟨2, ![1, 192]⟩
abbrev S192x96 : Shape := ⟨2, ![192, 96]⟩
abbrev S96x192 : Shape := ⟨2, ![96, 192]⟩
abbrev S9x192x192 : Shape := ⟨3, ![9, 192, 192]⟩
abbrev S1728x192 : Shape := ⟨2, ![1728, 192]⟩
abbrev S1728x96 : Shape := ⟨2, ![1728, 96]⟩
abbrev S96x96 : Shape := ⟨2, ![96, 96]⟩
abbrev S1x1x192x192 : Shape := ⟨4, ![1, 1, 192, 192]⟩
abbrev S1x1x96x192 : Shape := ⟨4, ![1, 1, 96, 192]⟩
abbrev S2x192x192x3 : Shape := ⟨4, ![2, 192, 192, 3]⟩

abbrev nBuf : Space → Nat
  | .hbm => 6
  | .vmem => 10
  | .smem => 0
  | _ => 0

abbrev bufTy : (tb : Table) → Fin (tcTables nBuf tb) → BufTy
  | .hbm, ⟨0, _⟩ => ⟨S2x3x384x384, .f32⟩
  | .hbm, ⟨1, _⟩ => ⟨S2x9x192x192, .f32⟩
  | .hbm, ⟨2, _⟩ => ⟨S2x9x192x192, .f32⟩
  | .hbm, ⟨3, _⟩ => ⟨S2x9x192x192, .f32⟩
  | .hbm, ⟨4, _⟩ => ⟨S2x3x192x192, .f32⟩
  | .hbm, ⟨5, _⟩ => ⟨S2x192x192x3, .f32⟩
  | .local _ .vmem, ⟨0, _⟩ => ⟨S1x3x384x384, .f32⟩
  | .local _ .vmem, ⟨1, _⟩ => ⟨S1x3x384x384, .f32⟩
  | .local _ .vmem, ⟨2, _⟩ => ⟨S1x9x192x192, .f32⟩
  | .local _ .vmem, ⟨3, _⟩ => ⟨S1x9x192x192, .f32⟩
  | .local _ .vmem, ⟨4, _⟩ => ⟨S1x9x192x192, .f32⟩
  | .local _ .vmem, ⟨5, _⟩ => ⟨S1x9x192x192, .f32⟩
  | .local _ .vmem, ⟨6, _⟩ => ⟨S1x9x192x192, .f32⟩
  | .local _ .vmem, ⟨7, _⟩ => ⟨S1x9x192x192, .f32⟩
  | .local _ .vmem, ⟨8, _⟩ => ⟨S1x3x192x192, .f32⟩
  | .local _ .vmem, ⟨9, _⟩ => ⟨S1x3x192x192, .f32⟩
  | _, _ => ⟨S2x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_two_pi" => some ((2097152 / 13176795 : ℝ) : EReal)
  | _ => none
-- ==== ReferenceIdeal.lean ====
abbrev S2x3x384x384 : Shape := ⟨4, ![2, 3, 384, 384]⟩
abbrev S2x9x192x192 : Shape := ⟨4, ![2, 9, 192, 192]⟩
abbrev S2x192x192x9 : Shape := ⟨4, ![2, 192, 192, 9]⟩
abbrev S192 : Shape := ⟨1, ![192]⟩
abbrev S_ : Shape := ⟨0, ![]⟩
abbrev S3 : Shape := ⟨1, ![3]⟩
abbrev S3x3 : Shape := ⟨2, ![3, 3]⟩
abbrev S9 : Shape := ⟨1, ![9]⟩
abbrev S1x3 : Shape := ⟨2, ![1, 3]⟩
abbrev S1x1x1x9 : Shape := ⟨4, ![1, 1, 1, 9]⟩
abbrev S192x1 : Shape := ⟨2, ![192, 1]⟩
abbrev S1x192x1x1 : Shape := ⟨4, ![1, 192, 1, 1]⟩
abbrev S1x192x9x1 : Shape := ⟨4, ![1, 192, 9, 1]⟩
abbrev S192x9 : Shape := ⟨2, ![192, 9]⟩
abbrev S1x1x192x9 : Shape := ⟨4, ![1, 1, 192, 9]⟩
abbrev S2x384x384x3 : Shape := ⟨4, ![2, 384, 384, 3]⟩
abbrev S2x331776 : Shape := ⟨2, ![2, 331776]⟩
abbrev S2 : Shape := ⟨1, ![2]⟩
abbrev S2x1 : Shape := ⟨2, ![2, 1]⟩
abbrev S2x331776x1 : Shape := ⟨3, ![2, 331776, 1]⟩
abbrev S2x331776x3 : Shape := ⟨3, ![2, 331776, 3]⟩
abbrev S1990656 : Shape := ⟨1, ![1990656]⟩
abbrev S663552 : Shape := ⟨1, ![663552]⟩
abbrev S2x663552 : Shape := ⟨2, ![2, 663552]⟩
abbrev S1990656x1 : Shape := ⟨2, ![1990656, 1]⟩
abbrev S1990656x4 : Shape := ⟨2, ![1990656, 4]⟩
abbrev S663552x2x2x3 : Shape := ⟨4, ![663552, 2, 2, 3]⟩
abbrev S663552x1x1x2 : Shape := ⟨4, ![663552, 1, 1, 2]⟩
abbrev S1x663552x1x1x1x1x1x2 : Shape := ⟨8, ![1, 663552, 1, 1, 1, 1, 1, 2]⟩
abbrev S1x663552x2x1x1x1x1x2 : Shape := ⟨8, ![1, 663552, 2, 1, 1, 1, 1, 2]⟩
abbrev S663552x2x1x2 : Shape := ⟨4, ![663552, 2, 1, 2]⟩
abbrev S663552x1x2x1 : Shape := ⟨4, ![663552, 1, 2, 1]⟩
abbrev S663552x2x1x3 : Shape := ⟨4, ![663552, 2, 1, 3]⟩
abbrev S663552x3x1x2 : Shape := ⟨4, ![663552, 3, 1, 2]⟩
abbrev S663552x2x1 : Shape := ⟨3, ![663552, 2, 1]⟩
abbrev S663552x3x1x1 : Shape := ⟨4, ![663552, 3, 1, 1]⟩
abbrev S663552x1 : Shape := ⟨2, ![663552, 1]⟩
abbrev S663552x3 : Shape := ⟨2, ![663552, 3]⟩
abbrev S2x192x192x9x3 : Shape := ⟨5, ![2, 192, 192, 9, 3]⟩
abbrev S2x192x192x9x1 : Shape := ⟨5, ![2, 192, 192, 9, 1]⟩
abbrev S2x192x192x3 : Shape := ⟨4, ![2, 192, 192, 3]⟩

abbrev nBuf : Space → Nat
  | .hbm => 267
  | .vmem => 0
  | .smem => 0
  | _ => 0

abbrev hbmTy0_0 (i : Nat) : BufTy := match i % 128 with
  | 0 => ⟨S2x3x384x384, .f32⟩
  | 1 => ⟨S2x9x192x192, .f32⟩
  | 2 => ⟨S2x9x192x192, .f32⟩
  | 3 => ⟨S2x9x192x192, .f32⟩
  | 4 => ⟨S2x192x192x9, .f32⟩
  | 5 => ⟨S2x192x192x9, .f32⟩
  | 6 => ⟨S2x192x192x9, .f32⟩
  | 7 => ⟨S192, .i32⟩
  | 8 => ⟨S192, .f32⟩
  | 9 => ⟨S_, .f32⟩
  | 10 => ⟨S192, .f32⟩
  | 11 => ⟨S192, .f32⟩
  | 12 => ⟨S_, .f32⟩
  | 13 => ⟨S192, .f32⟩
  | 14 => ⟨S192, .f32⟩
  | 15 => ⟨S192, .f32⟩
  | 16 => ⟨S3, .i32⟩
  | 17 => ⟨S3x3, .i32⟩
  | 18 => ⟨S9, .i32⟩
  | 19 => ⟨S9, .f32⟩
  | 20 => ⟨S3, .i32⟩
  | 21 => ⟨S1x3, .i32⟩
  | 22 => ⟨S3x3, .i32⟩
  | 23 => ⟨S9, .i32⟩
  | 24 => ⟨S9, .f32⟩
  | 25 => ⟨S_, .f32⟩
  | 26 => ⟨S2x192x192x9, .f32⟩
  | 27 => ⟨S2x192x192x9, .f32⟩
  | 28 => ⟨S1x1x1x9, .f32⟩
  | 29 => ⟨S2x192x192x9, .f32⟩
  | 30 => ⟨S2x192x192x9, .f32⟩
  | 31 => ⟨S192x1, .f32⟩
  | 32 => ⟨S1x192x1x1, .f32⟩
  | 33 => ⟨S1x192x9x1, .f32⟩
  | 34 => ⟨S192x9, .f32⟩
  | 35 => ⟨S1x1x192x9, .f32⟩
  | 36 => ⟨S2x192x192x9, .f32⟩
  | 37 => ⟨S2x192x192x9, .f32⟩
  | 38 => ⟨S_, .f32⟩
  | 39 => ⟨S2x192x192x9, .f32⟩
  | 40 => ⟨S2x192x192x9, .f32⟩
  | 41 => ⟨S1x1x1x9, .f32⟩
  | 42 => ⟨S2x192x192x9, .f32⟩
  | 43 => ⟨S2x192x192x9, .f32⟩
  | 44 => ⟨S192x1, .f32⟩
  | 45 => ⟨S1x192x1x1, .f32⟩
  | 46 => ⟨S1x192x9x1, .f32⟩
  | 47 => ⟨S192x9, .f32⟩
  | 48 => ⟨S1x1x192x9, .f32⟩
  | 49 => ⟨S2x192x192x9, .f32⟩
  | 50 => ⟨S2x192x192x9, .f32⟩
  | 51 => ⟨S2x384x384x3, .f32⟩
  | 52 => ⟨S2x331776, .f32⟩
  | 53 => ⟨S2x331776, .f32⟩
  | 54 => ⟨S2x331776, .f32⟩
  | 55 => ⟨S2x331776, .i32⟩
  | 56 => ⟨S_, .i32⟩
  | 57 => ⟨S2x331776, .i32⟩
  | 58 => ⟨S2x331776, .i32⟩
  | 59 => ⟨S2x331776, .f32⟩
  | 60 => ⟨S2x331776, .i32⟩
  | 61 => ⟨S_, .i32⟩
  | 62 => ⟨S2x331776, .i32⟩
  | 63 => ⟨S2x331776, .i32⟩
  | 64 => ⟨S_, .i32⟩
  | 65 => ⟨S_, .i32⟩
  | 66 => ⟨S_, .i32⟩
  | 67 => ⟨S2x331776, .i32⟩
  | 68 => ⟨S2x331776, .i32⟩
  | 69 => ⟨S_, .i32⟩
  | 70 => ⟨S2x331776, .i32⟩
  | 71 => ⟨S2x331776, .i32⟩
  | 72 => ⟨S_, .i32⟩
  | 73 => ⟨S_, .i32⟩
  | 74 => ⟨S_, .i32⟩
  | 75 => ⟨S2x331776, .i32⟩
  | 76 => ⟨S2x331776, .i32⟩
  | 77 => ⟨S_, .i32⟩
  | 78 => ⟨S2x331776, .i32⟩
  | 79 => ⟨S2x331776, .i32⟩
  | 80 => ⟨S_, .i32⟩
  | 81 => ⟨S_, .i32⟩
  | 82 => ⟨S_, .i32⟩
  | 83 => ⟨S2x331776, .i32⟩
  | 84 => ⟨S2x331776, .i32⟩
  | 85 => ⟨S_, .i32⟩
  | 86 => ⟨S2x331776, .i32⟩
  | 87 => ⟨S2x331776, .i32⟩
  | 88 => ⟨S_, .i32⟩
  | 89 => ⟨S_, .i32⟩
  | 90 => ⟨S_, .i32⟩
  | 91 => ⟨S2x331776, .i32⟩
  | 92 => ⟨S2x331776, .i32⟩
  | 93 => ⟨S_, .i32⟩
  | 94 => ⟨S2x331776, .i32⟩
  | 95 => ⟨S2x331776, .i32⟩
  | 96 => ⟨S2, .i32⟩
  | 97 => ⟨S2x1, .i32⟩
  | 98 => ⟨S_, .i32⟩
  | 99 => ⟨S2x1, .i32⟩
  | 100 => ⟨S2x1, .i1⟩
  | 101 => ⟨S_, .i32⟩
  | 102 => ⟨S2x1, .i32⟩
  | 103 => ⟨S2x1, .i32⟩
  | 104 => ⟨S2x1, .i32⟩
  | 105 => ⟨S_, .i32⟩
  | 106 => ⟨S2x331776, .i32⟩
  | 107 => ⟨S2x331776, .i1⟩
  | 108 => ⟨S_, .i32⟩
  | 109 => ⟨S2x331776, .i32⟩
  | 110 => ⟨S2x331776, .i32⟩
  | 111 => ⟨S2x331776, .i32⟩
  | 112 => ⟨S_, .i32⟩
  | 113 => ⟨S2x331776, .i32⟩
  | 114 => ⟨S2x331776, .i1⟩
  | 115 => ⟨S_, .i32⟩
  | 116 => ⟨S2x331776, .i32⟩
  | 117 => ⟨S2x331776, .i32⟩
  | 118 => ⟨S2x331776, .i32⟩
  | 119 => ⟨S2x331776, .i32⟩
  | 120 => ⟨S2x331776x1, .i32⟩
  | 121 => ⟨S2x331776x1, .i32⟩
  | 122 => ⟨S2x331776x1, .i32⟩
  | 123 => ⟨S2x331776x3, .i32⟩
  | 124 => ⟨S2x331776x3, .f32⟩
  | 125 => ⟨S1990656, .f32⟩
  | 126 => ⟨S_, .i32⟩
  | 127 => ⟨S2x1, .i32⟩
  | _ => ⟨S2x3x384x384, .f32⟩

abbrev hbmTy0_1 (i : Nat) : BufTy := match i % 128 with
  | 0 => ⟨S2x1, .i1⟩
  | 1 => ⟨S_, .i32⟩
  | 2 => ⟨S2x1, .i32⟩
  | 3 => ⟨S2x1, .i32⟩
  | 4 => ⟨S2x1, .i32⟩
  | 5 => ⟨S_, .i32⟩
  | 6 => ⟨S2x331776, .i32⟩
  | 7 => ⟨S2x331776, .i1⟩
  | 8 => ⟨S_, .i32⟩
  | 9 => ⟨S2x331776, .i32⟩
  | 10 => ⟨S2x331776, .i32⟩
  | 11 => ⟨S2x331776, .i32⟩
  | 12 => ⟨S_, .i32⟩
  | 13 => ⟨S2x331776, .i32⟩
  | 14 => ⟨S2x331776, .i1⟩
  | 15 => ⟨S_, .i32⟩
  | 16 => ⟨S2x331776, .i32⟩
  | 17 => ⟨S2x331776, .i32⟩
  | 18 => ⟨S2x331776, .i32⟩
  | 19 => ⟨S2x331776, .i32⟩
  | 20 => ⟨S2x331776x1, .i32⟩
  | 21 => ⟨S2x331776x1, .i32⟩
  | 22 => ⟨S2x331776x1, .i32⟩
  | 23 => ⟨S2x331776x3, .i32⟩
  | 24 => ⟨S2x331776x3, .f32⟩
  | 25 => ⟨S1990656, .f32⟩
  | 26 => ⟨S_, .i32⟩
  | 27 => ⟨S2x1, .i32⟩
  | 28 => ⟨S2x1, .i1⟩
  | 29 => ⟨S_, .i32⟩
  | 30 => ⟨S2x1, .i32⟩
  | 31 => ⟨S2x1, .i32⟩
  | 32 => ⟨S2x1, .i32⟩
  | 33 => ⟨S_, .i32⟩
  | 34 => ⟨S2x331776, .i32⟩
  | 35 => ⟨S2x331776, .i1⟩
  | 36 => ⟨S_, .i32⟩
  | 37 => ⟨S2x331776, .i32⟩
  | 38 => ⟨S2x331776, .i32⟩
  | 39 => ⟨S2x331776, .i32⟩
  | 40 => ⟨S_, .i32⟩
  | 41 => ⟨S2x331776, .i32⟩
  | 42 => ⟨S2x331776, .i1⟩
  | 43 => ⟨S_, .i32⟩
  | 44 => ⟨S2x331776, .i32⟩
  | 45 => ⟨S2x331776, .i32⟩
  | 46 => ⟨S2x331776, .i32⟩
  | 47 => ⟨S2x331776, .i32⟩
  | 48 => ⟨S2x331776x1, .i32⟩
  | 49 => ⟨S2x331776x1, .i32⟩
  | 50 => ⟨S2x331776x1, .i32⟩
  | 51 => ⟨S2x331776x3, .i32⟩
  | 52 => ⟨S2x331776x3, .f32⟩
  | 53 => ⟨S1990656, .f32⟩
  | 54 => ⟨S_, .i32⟩
  | 55 => ⟨S2x1, .i32⟩
  | 56 => ⟨S2x1, .i1⟩
  | 57 => ⟨S_, .i32⟩
  | 58 => ⟨S2x1, .i32⟩
  | 59 => ⟨S2x1, .i32⟩
  | 60 => ⟨S2x1, .i32⟩
  | 61 => ⟨S_, .i32⟩
  | 62 => ⟨S2x331776, .i32⟩
  | 63 => ⟨S2x331776, .i1⟩
  | 64 => ⟨S_, .i32⟩
  | 65 => ⟨S2x331776, .i32⟩
  | 66 => ⟨S2x331776, .i32⟩
  | 67 => ⟨S2x331776, .i32⟩
  | 68 => ⟨S_, .i32⟩
  | 69 => ⟨S2x331776, .i32⟩
  | 70 => ⟨S2x331776, .i1⟩
  | 71 => ⟨S_, .i32⟩
  | 72 => ⟨S2x331776, .i32⟩
  | 73 => ⟨S2x331776, .i32⟩
  | 74 => ⟨S2x331776, .i32⟩
  | 75 => ⟨S2x331776, .i32⟩
  | 76 => ⟨S2x331776x1, .i32⟩
  | 77 => ⟨S2x331776x1, .i32⟩
  | 78 => ⟨S2x331776x1, .i32⟩
  | 79 => ⟨S2x331776x3, .i32⟩
  | 80 => ⟨S2x331776x3, .f32⟩
  | 81 => ⟨S1990656, .f32⟩
  | 82 => ⟨S2x331776, .i32⟩
  | 83 => ⟨S2x331776, .i32⟩
  | 84 => ⟨S2x331776, .i32⟩
  | 85 => ⟨S2x331776, .f32⟩
  | 86 => ⟨S_, .f32⟩
  | 87 => ⟨S2x331776, .f32⟩
  | 88 => ⟨S2x331776, .f32⟩
  | 89 => ⟨S663552, .f32⟩
  | 90 => ⟨S2x331776, .f32⟩
  | 91 => ⟨S2x331776, .f32⟩
  | 92 => ⟨S2x331776, .f32⟩
  | 93 => ⟨S2x331776, .f32⟩
  | 94 => ⟨S2x663552, .f32⟩
  | 95 => ⟨S1990656x1, .f32⟩
  | 96 => ⟨S1990656x1, .f32⟩
  | 97 => ⟨S1990656x1, .f32⟩
  | 98 => ⟨S1990656x1, .f32⟩
  | 99 => ⟨S1990656x4, .f32⟩
  | 100 => ⟨S663552x2x2x3, .f32⟩
  | 101 => ⟨S2x331776, .f32⟩
  | 102 => ⟨S2x331776, .f32⟩
  | 103 => ⟨S2x331776, .f32⟩
  | 104 => ⟨S2x331776, .f32⟩
  | 105 => ⟨S2x663552, .f32⟩
  | 106 => ⟨S663552x1x1x2, .f32⟩
  | 107 => ⟨S1x663552x1x1x1x1x1x2, .f32⟩
  | 108 => ⟨S1x663552x2x1x1x1x1x2, .f32⟩
  | 109 => ⟨S663552x2x1x2, .f32⟩
  | 110 => ⟨S663552x1x2x1, .f32⟩
  | 111 => ⟨S663552x2x1x3, .f32⟩
  | 112 => ⟨S663552x3x1x2, .f32⟩
  | 113 => ⟨S663552x2x1, .f32⟩
  | 114 => ⟨S663552x3x1x1, .f32⟩
  | 115 => ⟨S663552x1, .f32⟩
  | 116 => ⟨S663552x3, .f32⟩
  | 117 => ⟨S663552x3, .f32⟩
  | 118 => ⟨S663552x3, .f32⟩
  | 119 => ⟨S2x192x192x9x3, .f32⟩
  | 120 => ⟨S2x192x192x9x1, .f32⟩
  | 121 => ⟨S2x192x192x9x3, .f32⟩
  | 122 => ⟨S2x192x192x9x3, .f32⟩
  | 123 => ⟨S_, .f32⟩
  | 124 => ⟨S2x192x192x3, .f32⟩
  | 125 => ⟨S_, .f32⟩
  | 126 => ⟨S2x192x192x3, .f32⟩
  | 127 => ⟨S2x192x192x3, .f32⟩
  | _ => ⟨S2x3x384x384, .f32⟩

abbrev hbmTy0_2 (i : Nat) : BufTy := match i % 128 with
  | 0 => ⟨S_, .f32⟩
  | 1 => ⟨S2x192x192x3, .f32⟩
  | 2 => ⟨S2x192x192x3, .f32⟩
  | 3 => ⟨S2x192x192x3, .f32⟩
  | 4 => ⟨S_, .f32⟩
  | 5 => ⟨S2x192x192x3, .f32⟩
  | 6 => ⟨S2x192x192x3, .f32⟩
  | 7 => ⟨S_, .f32⟩
  | 8 => ⟨S2x192x192x3, .f32⟩
  | 9 => ⟨S2x192x192x3, .f32⟩
  | 10 => ⟨S2x192x192x3, .f32⟩
  | _ => ⟨S2x3x384x384, .f32⟩

abbrev hbmTy (i : Nat) : BufTy := match i / 128 with
  | 0 => hbmTy0_0 i
  | 1 => hbmTy0_1 i
  | 2 => hbmTy0_2 i
  | _ => ⟨S2x3x384x384, .f32⟩

abbrev bufTy : (tb : Table) → Fin (tcTables nBuf tb) → BufTy
  | .hbm, ⟨i, _⟩ => hbmTy i
  | _, _ => ⟨S2x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_3 : Ref sig .tc := ⟨.hbm, 61, rfl⟩
abbrev main_v52 : Ref sig .tc := ⟨.hbm, 62, rfl⟩
abbrev main_v53 : Ref sig .tc := ⟨.hbm, 63, rfl⟩
abbrev main_c_4 : Ref sig .tc := ⟨.hbm, 64, rfl⟩
abbrev main_c_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v54 : Ref sig .tc := ⟨.hbm, 71, rfl⟩
abbrev main_c_6 : Ref sig .tc := ⟨.hbm, 72, rfl⟩
abbrev main_c_7 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v55 : Ref sig .tc := ⟨.hbm, 79, rfl⟩
abbrev main_c_8 : Ref sig .tc := ⟨.hbm, 80, rfl⟩
abbrev main_c_9 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v56 : Ref sig .tc := ⟨.hbm, 87, rfl⟩
abbrev main_c_10 : Ref sig .tc := ⟨.hbm, 88, rfl⟩
abbrev main_c_11 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_12 : Ref sig .tc := ⟨.hbm, 98, rfl⟩
abbrev main_v60 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_14 : Ref sig .tc := ⟨.hbm, 105, rfl⟩
abbrev main_v65 : Ref sig .tc := ⟨.hbm, 106, rfl⟩
abbrev main_v66 : Ref sig .tc := ⟨.hbm, 107, rfl⟩
abbrev main_c_15 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_16 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_18 : Ref sig .tc := ⟨.hbm, 126, rfl⟩
abbrev main_v82 : Ref sig .tc := ⟨.hbm, 127, rfl⟩
abbrev main_v83 : Ref sig .tc := ⟨.hbm, 128, rfl⟩
abbrev main_c_19 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_20 : Ref sig .tc := ⟨.hbm, 133, rfl⟩
abbrev main_v87 : Ref sig .tc := ⟨.hbm, 134, rfl⟩
abbrev main_v88 : Ref sig .tc := ⟨.hbm, 135, rfl⟩
abbrev main_c_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_22 : Ref sig .tc := ⟨.hbm, 140, rfl⟩
abbrev main_v92 : Ref sig .tc := ⟨.hbm, 141, rfl⟩
abbrev main_v93 : Ref sig .tc := ⟨.hbm, 142, rfl⟩
abbrev main_c_23 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_24 : Ref sig .tc := ⟨.hbm, 154, rfl⟩
abbrev main_v104 : Ref sig .tc := ⟨.hbm, 155, rfl⟩
abbrev main_v105 : Ref sig .tc := ⟨.hbm, 156, rfl⟩
abbrev main_c_25 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_26 : Ref sig .tc := ⟨.hbm, 161, rfl⟩
abbrev main_v109 : Ref sig .tc := ⟨.hbm, 162, rfl⟩
abbrev main_v110 : Ref sig .tc := ⟨.hbm, 163, rfl⟩
abbrev main_c_27 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_28 : Ref sig .tc := ⟨.hbm, 168, rfl⟩
abbrev main_v114 : Ref sig .tc := ⟨.hbm, 169, rfl⟩
abbrev main_v115 : Ref sig .tc := ⟨.hbm, 170, rfl⟩
abbrev main_c_29 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_30 : Ref sig .tc := ⟨.hbm, 182, rfl⟩
abbrev main_v126 : Ref sig .tc := ⟨.hbm, 183, rfl⟩
abbrev main_v127 : Ref sig .tc := ⟨.hbm, 184, rfl⟩
abbrev main_c_31 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_c_32 : Ref sig .tc := ⟨.hbm, 189, rfl⟩
abbrev main_v131 : Ref sig .tc := ⟨.hbm, 190, rfl⟩
abbrev main_v132 : Ref sig .tc := ⟨.hbm, 191, rfl⟩
abbrev main_c_33 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_c_34 : Ref sig .tc := ⟨.hbm, 196, rfl⟩
abbrev main_v136 : Ref sig .tc := ⟨.hbm, 197, rfl⟩
abbrev main_v137 : Ref sig .tc := ⟨.hbm, 198, rfl⟩
abbrev main_c_35 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_36 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_37 : Ref sig .tc := ⟨.hbm, 251, rfl⟩
abbrev main_v188 : Ref sig .tc := ⟨.hbm, 252, rfl⟩
abbrev main_cst_38 : Ref sig .tc := ⟨.hbm, 253, rfl⟩
abbrev main_v189 : Ref sig .tc := ⟨.hbm, 254, rfl⟩
abbrev main_v190 : Ref sig .tc := ⟨.hbm, 255, rfl⟩
abbrev main_cst_39 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_cst_40 : Ref sig .tc := ⟨.hbm, 260, rfl⟩
abbrev main_v194 : Ref sig .tc := ⟨.hbm, 261, rfl⟩
abbrev main_v195 : Ref sig .tc := ⟨.hbm, 262, rfl⟩
abbrev main_cst_41 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩

abbrev nD : Nat := 1
abbrev τ : Topo := Topo.v7x

variable {F : FTy → Type} [FloatOps F]
-- ==== Proof.Model.lean ====
module

public import proofs.«01_k».proof.Proof.Gen.KernelIdeal.Frame

@[expose] public section

/-! What one grid point of the kernel stores, written once for every tap, channel and half of the rows. -/

set_option maxRecDepth 16384

noncomputable section

namespace Cert.KernelIdeal.Model

open Idealize.ShloMosaic Cert.KernelIdeal Cert.KernelIdeal.Gen

variable {F : FTy → Type} [FloatOps F] [Named F]

/-- A window of 192 rows fits at row `d`. -/
theorem slices_diag_rows {d : ℕ} (h : d ≤ 192) : S384x192.Slices ![d, 0] S192x192 := by
  refine ⟨rfl, fun a => ?_⟩
  fin_cases a
  · show d + 192 ≤ 384; omega
  · show 0 + 192 ≤ 192; omega

/-- A window of 192 columns fits at column `e`. -/
theorem slices_diag_cols {e : ℕ} (h : e ≤ 192) : S384x384.Slices ![0, e] S384x192 := by
  refine ⟨rfl, fun a => ?_⟩
  fin_cases a
  · show 0 + 384 ≤ 384; omega
  · show e + 192 ≤ 384; omega

/-- The rows of tap `k` lie in the stack. -/
theorem slices_tap {k : ℕ} (h : k < 9) : S1728x96.Slices ![k * 192, 0] S192x96 := by
  refine ⟨rfl, fun a => ?_⟩
  fin_cases a
  · show k * 192 + 192 ≤ 1728; omega
  · show 0 + 96 ≤ 96; omega

/-- A half of the rows fits at row `o`. -/
theorem slices_half {o : ℕ} (h : o ≤ 96) : S192x192.Slices ![o, 0] S96x192 := by
  refine ⟨rfl, fun a => ?_⟩
  fin_cases a
  · show o + 96 ≤ 192; omega
  · show 0 + 192 ≤ 192; omega

/-- Channel `c` lies in the staged image. -/
theorem inb_image {c : ℕ} (h : c < 3) :
    ∀ a, (![0, c, 0, 0] : Fin 4 → ℕ) a + S1x1x384x384.size a ≤ S1x3x384x384.size a := by
  intro a
  fin_cases a
  · show 0 + 1 ≤ 1; omega
  · show c + 1 ≤ 3; omega
  · show 0 + 384 ≤ 384; omega
  · show 0 + 384 ≤ 384; omega

/-- Plane `k` lies in the nine staged planes. -/
theorem inb_plane {k : ℕ} (h : k < 9) :
    ∀ a, (![0, k, 0, 0] : Fin 4 → ℕ) a + S1x1x192x192.size a ≤ S1x9x192x192.size a := by
  intro a
  fin_cases a
  · show 0 + 1 ≤ 1; omega
  · show k + 1 ≤ 9; omega
  · show 0 + 192 ≤ 192; omega
  · show 0 + 192 ≤ 192; omega

/-- A half of plane `k` lies in the nine staged planes. -/
theorem inb_half {k o : ℕ} (h : k < 9) (ho : o ≤ 96) :
    ∀ a, (![0, k, o, 0] : Fin 4 → ℕ) a + S1x1x96x192.size a ≤ S1x9x192x192.size a := by
  intro a
  fin_cases a
  · show 0 + 1 ≤ 1; omega
  · show k + 1 ≤ 9; omega
  · show o + 96 ≤ 192; omega
  · show 0 + 192 ≤ 192; omega

/-- The pattern of the 32-bit float holding the small natural number `g` (at most four). -/
def bits : ℕ → BitVec 32
  | 0 => 0x00000000#32
  | 1 => 0x3F800000#32
  | 2 => 0x40000000#32
  | 3 => 0x40400000#32
  | _ => 0x40800000#32

/-- Channel `c` of the image block. -/
def channel (x0 : Vec F S1x3x384x384 .f32) (c : ℕ) (hc : c < 3) : FVec F S384x384 .f32 :=
  shapeCast S384x384
    (View.ld x0 (Rect.unit (s := S1x3x384x384) ![0, c, 0, 0] S1x1x384x384.size (inb_image hc)))
    shapeCasts_S1x1x384x384_S384x384

/-- The shifted diagonal of an image plane: at lane `j` the element at row `j + d`, column `j + e`. -/
def diag (img : FVec F S384x384 .f32) (d e : ℕ) (hd : d ≤ 192) (he : e ≤ 192) : FVec F S1x192 .f32 :=
  shapeCast S1x192 (multiReduction .add [0] S192
    (mulf (extractStridedSlice S192x192 ![d, 0]
      (extractStridedSlice S384x192 ![0, e] img (slices_diag_cols he)) (slices_diag_rows hd)) (k0_pay2 (F := F)))
    0x00000000#32 reduces_S192x192_S192 (.inl rfl) rfl) shapeCasts_S192_S1x192

/-- Whether an offset of the whole plane carries over the next integer, as a float. -/
def carry (off : FVec F S192x192 .f32) (g : ℕ) : FVec F S192x192 .f32 :=
  sitofp .f32 (extui 32 (cmpf .oge
    (subf (addf (addf (addf off (broadcast S192x192 (Scalar.ofBits .f32 0x3FC00000#32)))
        (broadcast S192x192 (Scalar.ofBits .f32 (bits g))))
        (broadcastTo S192x192 (addf (k0_pay100 (F := F)) (broadcast S1x192 (Scalar.ofBits .f32 0x3F000000#32)))
          broadcasts_S1x192_S192x192))
      (broadcastTo S192x192 (addf (k0_pay100 (F := F)) (broadcast S1x192 (Scalar.ofBits .f32 (bits (2 + g)))))
          broadcasts_S1x192_S192x192))
    (broadcast S192x192 (Scalar.ofBits .f32 0x3F800000#32))) natLt_1_32)

/-- The offsets of every tap, one under the other, with the even (`δ = 0`) or the odd columns kept. -/
def lanes (x : Vec F S1x9x192x192 .f32) (δ : ℕ) : FVec F S1728x96 .f32 :=
  match δ with
  | 0 => k0_pay109 (k0_pay102 (F := F)) (View.ld x r0_3)
  | _ => k0_pay110 (k0_pay103 (F := F)) (View.ld x r0_3)

/-- The offsets of tap `k` at the columns of parity `δ`: the even rows to the left, the odd rows to the right. -/
def parity (pd : FVec F S1728x96 .f32) (k : ℕ) (hk : k < 9) : FVec F S96x192 .f32 :=
  concatenate S96x192 1
    [⟨S96x96, matmul dot_S96x192_S192x96_S96x96_1_0_0_1_n_n (some .fp32) (k0_pay104 (F := F))
        (extractStridedSlice S192x96 ![k * 192, 0] pd (slices_tap hk)) (constant S96x96 .f32 0x00000000#32)⟩,
     ⟨S96x96, matmul dot_S96x192_S192x96_S96x96_1_0_0_1_n_n (some .fp32)
        (k0_pay106 (F := F) (iota .tc S96x192 32 [1] iota_S96x192_d1_w32) k0_pay105)
        (extractStridedSlice S192x96 ![k * 192, 0] pd (slices_tap hk)) (constant S96x96 .f32 0x00000000#32)⟩]
    concatenates_S96x96_S96x96_S96x192_d1

/-- The column number a lane of `parity` comes from. -/
def col (δ : ℕ) : FVec F S1x192 .f32 :=
  addf (k0_pay101 (F := F) (iota .tc S1x192 32 [1] iota_S1x192_d1_w32) 96#32 (Scalar.cmpi .eq 96#32 0#32))
    (broadcast S1x192 (Scalar.ofBits .f32 (bits δ)))

/-- The distance of a sampling point from the whole number below the offset's own cell. -/
def dist (q : FVec F S96x192 .f32) (g δ : ℕ) : FVec F S96x192 .f32 :=
  subf (addf (addf (addf q (broadcast S96x192 (Scalar.ofBits .f32 0x3FC00000#32)))
        (broadcast S96x192 (Scalar.ofBits .f32 (bits g))))
        (broadcastTo S96x192 (addf (col (F := F) δ) (broadcast S1x192 (Scalar.ofBits .f32 0x3F000000#32)))
          broadcasts_S1x192_S96x192))
      (broadcastTo S96x192 (addf (col (F := F) δ) (broadcast S1x192 (Scalar.ofBits .f32 (bits (2 + g)))))
          broadcasts_S1x192_S96x192)

/-- The fractional part of a distance below two. -/
def fracOf (t : FVec F S96x192 .f32) : FVec F S96x192 .f32 :=
  subf t (sitofp .f32 (extui 32 (cmpf .oge t (broadcast S96x192 (Scalar.ofBits .f32 0x3F800000#32))) natLt_1_32))

/-- The fractional parts of the offsets of tap `k` at the columns of parity `δ`. -/
def frac (x : Vec F S1x9x192x192 .f32) (k : ℕ) (hk : k < 9) (g δ : ℕ) : FVec F S96x192 .f32 :=
  fracOf (dist (parity (lanes x δ) k hk) g δ)

/-- The interpolation weight a fraction gives: its complement in the upper half of the rows (`h = 0`), itself in the lower. -/
def weight (h : ℕ) (p : FVec F S96x192 .f32) : FVec F S96x192 .f32 :=
  match h with
  | 0 => subf (broadcast S96x192 (Scalar.ofBits .f32 0x3F800000#32)) p
  | _ => p

/-- The complement of a carry. -/
def flip (c : FVec F S96x192 .f32) : FVec F S96x192 .f32 :=
  subf (broadcast S96x192 (Scalar.ofBits .f32 0x3F800000#32)) c

/-- The image at one corner of a sampling cell: the carries choose among four shifted diagonals. -/
def pick (cx cy : FVec F S96x192 .f32) (img : FVec F S384x384 .f32) (d e : ℕ) (hd : d + 1 ≤ 192) (he : e + 1 ≤ 192) :
    FVec F S96x192 .f32 :=
  addf (addf (addf
    (mulf (mulf (flip cx) (flip cy)) (broadcastTo S96x192 (diag img d e (by omega) (by omega)) broadcasts_S1x192_S96x192))
    (mulf (mulf (flip cx) cy) (broadcastTo S96x192 (diag img d (e + 1) (by omega) (by omega)) broadcasts_S1x192_S96x192)))
    (mulf (mulf cx (flip cy)) (broadcastTo S96x192 (diag img (d + 1) e (by omega) (by omega)) broadcasts_S1x192_S96x192)))
    (mulf (mulf cx cy) (broadcastTo S96x192 (diag img (d + 1) (e + 1) (by omega) (by omega)) broadcasts_S1x192_S96x192))

/-- The carries of tap `k` in half `h` of the rows. -/
def carryHalf (x : Vec F S1x9x192x192 .f32) (k : ℕ) (hk : k < 9) (g h : ℕ) (hh : h < 2) : FVec F S96x192 .f32 :=
  extractStridedSlice S96x192 ![h * 96, 0]
    (carry (shapeCast S192x192
      (View.ld x (Rect.unit (s := S1x9x192x192) ![0, k, 0, 0] S1x1x192x192.size (inb_plane hk)))
      shapeCasts_S1x1x192x192_S192x192) g)
    (slices_half (by omega))

/-- Entry `f` of the twelve corner reads of tap `k` (channel `f / 4`, corner `f % 4`). -/
def read (x0 : Vec F S1x3x384x384 .f32) (x2 x3 : Vec F S1x9x192x192 .f32) (k : ℕ) (hk : k < 9) (h : ℕ) (hh : h < 2)
    (f : ℕ) (hf : f < 12) : FVec F S96x192 .f32 :=
  pick (carryHalf x2 k hk (k / 3) h hh) (carryHalf x3 k hk (k % 3) h hh) (channel x0 (f / 4) (by omega))
    (2 + k / 3 + f % 4 / 2) (2 + k % 3 + (1 - f % 4 % 2)) (by omega) (by omega)

/-- The tap and the column parity of the first weight of tap `k`, and of the second. -/
def tap (k b : ℕ) : ℕ := (2 * k + b) % 9

/-- The tap a weight is taken from is one of the nine. -/
theorem tap_lt (k b : ℕ) : tap k b < 9 := Nat.mod_lt _ (by decide)

/-- The two weights of tap `k` on one axis. -/
def wx (x : Vec F S1x9x192x192 .f32) (k b h : ℕ) : FVec F S96x192 .f32 :=
  weight h (frac x (tap k b) (tap_lt k b) (tap k b / 3) ((2 * k + b) / 9))

/-- The two weights of tap `k` on the other axis. -/
def wy (x : Vec F S1x9x192x192 .f32) (k b h : ℕ) : FVec F S96x192 .f32 :=
  weight h (frac x (tap k b) (tap_lt k b) (tap k b % 3) ((2 * k + b) / 9))

/-- What tap `k` adds to channel `c` in half `h` of the rows. -/
def term (x0 : Vec F S1x3x384x384 .f32) (x1 x2 x3 : Vec F S1x9x192x192 .f32) (k : ℕ) (hk : k < 9) (h : ℕ) (hh : h < 2)
    (c : ℕ) (hc : c < 3) : FVec F S96x192 .f32 :=
  mulf
    (shapeCast S96x192
      (View.ld x1 (Rect.unit (s := S1x9x192x192) ![0, k, h * 96, 0] S1x1x96x192.size (inb_half hk (by omega))))
      shapeCasts_S1x1x96x192_S96x192)
    (addf (addf (addf
      (mulf (mulf (wx x2 k 0 h) (wy x3 k 0 h)) (read x0 x2 x3 k hk h hh c (by omega)))
      (mulf (mulf (wx x2 k 1 h) (wy x3 k 0 h)) (read x0 x2 x3 k hk h hh (3 + c) (by omega))))
      (mulf (mulf (wx x2 k 0 h) (wy x3 k 1 h)) (read x0 x2 x3 k hk h hh (6 + c) (by omega))))
      (mulf (mulf (wx x2 k 1 h) (wy x3 k 1 h)) (read x0 x2 x3 k hk h hh (9 + c) (by omega))))

/-- The sum of the first `n` taps. -/
def acc (x0 : Vec F S1x3x384x384 .f32) (x1 x2 x3 : Vec F S1x9x192x192 .f32) (h : ℕ) (hh : h < 2)
    (c : ℕ) (hc : c < 3) : (n : ℕ) → n ≤ 9 → FVec F S96x192 .f32
  | 0, _ => broadcast S96x192 (Scalar.ofBits .f32 0x00000000#32)
  | n + 1, hn => addf (acc x0 x1 x2 x3 h hh c hc n (by omega)) (term x0 x1 x2 x3 n (by omega) h hh c hc)

/-- The rounding the kernel puts on a sum: `z - sin (2π z) / 2π` with `z` the sum times 255. -/
def round (a : FVec F S96x192 .f32) : FVec F S96x192 .f32 :=
  subf (mulf a (broadcast S96x192 (Scalar.ofBits .f32 0x437F0000#32)))
    (mulf (sin (mulf (broadcast S96x192 (Scalar.ofBits .f32 0x40C90FDB#32))
        (mulf a (broadcast S96x192 (Scalar.ofBits .f32 0x437F0000#32)))))
      (broadcast S96x192 (Named.named κ "inv_two_pi" 0x3E22F983#32)))

/-- What is stored for channel `c` in half `h` of the rows. -/
def piece (x0 : Vec F S1x3x384x384 .f32) (x1 x2 x3 : Vec F S1x9x192x192 .f32) (h : ℕ) (hh : h < 2)
    (c : ℕ) (hc : c < 3) : FVec F S1x1x96x192 .f32 :=
  shapeCast S1x1x96x192 (round (acc x0 x1 x2 x3 h hh c hc 9 (by omega))) shapeCasts_S96x192_S1x1x96x192

set_option maxHeartbeats 4000000 in
/-- What a grid point stores is the six pieces of the model, one for every channel and half of the rows. -/
theorem out_eq (x0 : Vec F S1x3x384x384 .f32) (x1 x2 x3 : Vec F S1x9x192x192 .f32) :
    out0_4 x0 x1 x2 x3 = View.canon
    [⟨r0_36, piece x0 x1 x2 x3 1 (by decide) 2 (by decide)⟩,
     ⟨r0_35, piece x0 x1 x2 x3 0 (by decide) 2 (by decide)⟩,
     ⟨r0_34, piece x0 x1 x2 x3 1 (by decide) 1 (by decide)⟩,
     ⟨r0_33, piece x0 x1 x2 x3 0 (by decide) 1 (by decide)⟩,
     ⟨r0_32, piece x0 x1 x2 x3 1 (by decide) 0 (by decide)⟩,
     ⟨r0_31, piece x0 x1 x2 x3 0 (by decide) 0 (by decide)⟩] := rfl

end Cert.KernelIdeal.Model

end
-- ==== Proof.Consts.lean ====
module

public import Idealize.ShloMosaic.Lib.Pointwise
public import proofs.«01_k».proof.Proof.Model

@[expose] public section

/-! The numbers the programs' constants stand for, and the reading of a 0/1 comparison as a float. -/

noncomputable section

namespace Cert.Bridge

open Idealize.ShloMosaic

/-- The pattern of zero. -/
theorem lit_zero : Ideal.ofBits .f32 0x00000000#32 = 0 := by
  simp [Ideal.ofBits, Ideal.ieee, -EReal.coe_mul]

/-- The pattern of one. -/
theorem lit_one : Ideal.ofBits .f32 0x3F800000#32 = ((1 : ℝ) : EReal) := by
  simp [Ideal.ofBits, Ideal.ieee, -EReal.coe_mul]; norm_num

/-- The pattern of one half. -/
theorem lit_half : Ideal.ofBits .f32 0x3F000000#32 = ((1 / 2 : ℝ) : EReal) := by
  simp [Ideal.ofBits, Ideal.ieee, -EReal.coe_mul]; norm_num

/-- The pattern of three halves. -/
theorem lit_three_halves : Ideal.ofBits .f32 0x3FC00000#32 = ((3 / 2 : ℝ) : EReal) := by
  simp [Ideal.ofBits, Ideal.ieee, -EReal.coe_mul]; norm_num

/-- The pattern of two. -/
theorem lit_two : Ideal.ofBits .f32 0x40000000#32 = ((2 : ℝ) : EReal) := by
  simp [Ideal.ofBits, Ideal.ieee, -EReal.coe_mul]; norm_num

/-- The pattern of three. -/
theorem lit_three : Ideal.ofBits .f32 0x40400000#32 = ((3 : ℝ) : EReal) := by
  simp [Ideal.ofBits, Ideal.ieee, -EReal.coe_mul]; norm_num

/-- The pattern of four. -/
theorem lit_four : Ideal.ofBits .f32 0x40800000#32 = ((4 : ℝ) : EReal) := by
  simp [Ideal.ofBits, Ideal.ieee, -EReal.coe_mul]; norm_num

/-- The pattern of the float next to two pi. -/
theorem lit_two_pi : Ideal.ofBits .f32 0x40C90FDB#32 = ((13176795 / 2097152 : ℝ) : EReal) := by
  simp [Ideal.ofBits, Ideal.ieee, -EReal.coe_mul]; norm_num

/-- The pattern of a small natural number stands for that number. -/
theorem lit_bits {g : ℕ} (h : g ≤ 4) : Ideal.ofBits .f32 (Cert.KernelIdeal.Model.bits g) = ((g : ℝ) : EReal) := by
  interval_cases g
  · simpa [Cert.KernelIdeal.Model.bits] using lit_zero
  · simpa [Cert.KernelIdeal.Model.bits] using lit_one
  · simpa [Cert.KernelIdeal.Model.bits] using lit_two
  · simpa [Cert.KernelIdeal.Model.bits] using lit_three
  · simpa [Cert.KernelIdeal.Model.bits] using lit_four

/-- The named constant of the kernel is the reciprocal of the number its `2π` stands for. -/
theorem named_inv : Named.named (F := Ideal) (φ := .f32) Cert.KernelIdeal.κ "inv_two_pi" 0x3E22F983#32
    = ((2097152 / 13176795 : ℝ) : EReal) :=
  IdealRules.named_const.ideal_named_scalar _ _ _ _ rfl

end Cert.Bridge

end
-- ==== Proof.Spec.lean ====
module

public import Idealize.ShloMosaic.Lib.Pointwise

@[expose] public section

/-! The filtered image at one element, as a formula both programs are shown to compute.

    One batch is given: the image (channel, row, column), the kernel weights (tap, row, column) and the two offsets,
    real numbers between zero and two. -/

noncomputable section

namespace Cert.Bridge

open Idealize.ShloMosaic

/-- Whether an offset carries into the next cell. -/
def step (o : ℝ) : ℕ := if 1 ≤ o then 1 else 0

/-- The carry is at most one. -/
theorem step_le (o : ℝ) : step o ≤ 1 := by unfold step; split_ifs <;> omega

/-- The fractional part of an offset below two. -/
def part (o : ℝ) : ℝ := o - step o

/-- Entry `f` of the twelve corner reads of tap `k` at pixel `(i, j)`: channel `f / 4`, corner `f % 4` of the cell the
    two offsets point into. -/
def corner (img : Fin 3 → Fin 384 → Fin 384 → EReal) (ox oy : Fin 9 → Fin 192 → Fin 192 → ℝ) (k : Fin 9) (i j : Fin 192)
    (f : ℕ) (hf : f < 12) : EReal :=
  img ⟨f / 4, by omega⟩
    ⟨j + (2 + k / 3 + f % 4 / 2) + step (ox k i j), by have := step_le (ox k i j); omega⟩
    ⟨j + (2 + k % 3 + (1 - f % 4 % 2)) + step (oy k i j), by have := step_le (oy k i j); omega⟩

/-- The offset whose fraction is weight `b` of tap `k` at pixel `(i, j)`: element `2 ((192 i + j) 9 + k) + b` of the
    list of offsets of one half of the rows, in the order row, column, tap. -/
def source (o : Fin 9 → Fin 192 → Fin 192 → ℝ) (k : Fin 9) (b : ℕ) (hb : b < 2) (i j : Fin 192) : ℝ :=
  o ⟨(2 * k + b) % 9, by omega⟩ ⟨2 * (i % 96) + j / 96, by omega⟩ ⟨2 * (j % 96) + (2 * k + b) / 9, by omega⟩

/-- Weight `b` of tap `k` at pixel `(i, j)`: the complement of a fraction in the upper half of the rows, a fraction in
    the lower. -/
def weight (o : Fin 9 → Fin 192 → Fin 192 → ℝ) (k : Fin 9) (b : ℕ) (hb : b < 2) (i j : Fin 192) : ℝ :=
  if i.val < 96 then 1 - part (source o k b hb i j) else part (source o k b hb i j)

/-- The interpolated value of tap `k` and channel `c` at pixel `(i, j)`. -/
def sample (img : Fin 3 → Fin 384 → Fin 384 → EReal) (ox oy : Fin 9 → Fin 192 → Fin 192 → ℝ) (c : Fin 3) (k : Fin 9)
    (i j : Fin 192) : EReal :=
  ((weight ox k 0 (by omega) i j * weight oy k 0 (by omega) i j : ℝ) : EReal) * corner img ox oy k i j c (by omega)
  + ((weight ox k 1 (by omega) i j * weight oy k 0 (by omega) i j : ℝ) : EReal) * corner img ox oy k i j (3 + c) (by omega)
  + ((weight ox k 0 (by omega) i j * weight oy k 1 (by omega) i j : ℝ) : EReal) * corner img ox oy k i j (6 + c) (by omega)
  + ((weight ox k 1 (by omega) i j * weight oy k 1 (by omega) i j : ℝ) : EReal) * corner img ox oy k i j (9 + c) (by omega)

/-- The weighted sum of the nine taps at pixel `(i, j)` and channel `c`. -/
def total (img : Fin 3 → Fin 384 → Fin 384 → EReal) (ker : Fin 9 → Fin 192 → Fin 192 → EReal)
    (ox oy : Fin 9 → Fin 192 → Fin 192 → ℝ) (c : Fin 3) (i j : Fin 192) : EReal :=
  ∑ k : Fin 9, ker k i j * sample img ox oy c k i j

/-- The soft rounding of 255 times a sum. -/
def soft (a : EReal) : EReal :=
  a * Ideal.ofBits .f32 0x437F0000#32
    - Ideal.sin (Ideal.ofBits .f32 0x40C90FDB#32 * (a * Ideal.ofBits .f32 0x437F0000#32))
      * ((2097152 / 13176795 : ℝ) : EReal)

end Cert.Bridge

end
-- ==== Proof.Block.lean ====
module

public import Idealize.ShloMosaic.Lib.Pointwise
public import Idealize.ShloMosaic.Lib.Pipeline.ValueKit
public import proofs.«01_k».proof.Proof.Consts
public import proofs.«01_k».proof.Proof.Spec

@[expose] public section
set_option maxRecDepth 16384
noncomputable section

namespace Cert.KernelIdeal.Model

open Idealize.ShloMosaic Cert.KernelIdeal Cert.KernelIdeal.Gen

/-- A bit widened and read as a float is one where the bit is set and zero elsewhere. -/
theorem flag_apply (p : Prop) [Decidable p] (w : BitVec 1) (h : w = 1#1 ↔ p) :
    (FloatOps.sitofp .f32 (BitVec.setWidth 32 w) : Ideal .f32) = if p then 1 else 0 := by
  show (((BitVec.setWidth 32 w).toInt : ℝ) : EReal) = _
  by_cases hp : p
  · rw [if_pos hp, h.2 hp]; simp
  · rw [if_neg hp]
    have : w = 0#1 := by
      have hw : ¬ w = 1#1 := fun e => hp (h.1 e)
      clear h
      revert w; decide
    rw [this]; simp

/-- Words of different numbers below two to the 32 differ. -/
theorem word_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- The comparison of two such words is the comparison of the numbers. -/
theorem word_eq {a b : ℕ} (ha : a < 2 ^ 32) (hb : b < 2 ^ 32) :
    IntOp.cmpi .eq (BitVec.ofNat 32 a) (BitVec.ofNat 32 b) = 1#1 ↔ a = b := by
  rw [← word_inj ha hb]
  unfold IntOp.cmpi
  by_cases h : BitVec.ofNat 32 a = BitVec.ofNat 32 b
  · simp [h]
  · have : (BitVec.ofNat 32 a == BitVec.ofNat 32 b) = false := by simpa using h
    simp [h, this]

/-- Twice a word plus a word is the word of the number. -/
theorem word_double (a δ : ℕ) : IntOp.addi (IntOp.muli 2#32 (BitVec.ofNat 32 a)) (BitVec.ofNat 32 δ)
    = BitVec.ofNat 32 (2 * a + δ) := by
  unfold IntOp.addi IntOp.muli
  simp [BitVec.ofNat_add, BitVec.ofNat_mul]

/-- A selection row: one at the entry `2 b + δ`, zero elsewhere. -/
theorem select_apply (a : Fin 192) (b : Fin 96) (δ : ℕ) (hδ : δ < 2) :
    (FloatOps.sitofp .f32 (BitVec.setWidth 32 (IntOp.cmpi .eq (BitVec.ofNat 32 a)
      (IntOp.addi (IntOp.muli 2#32 (BitVec.ofNat 32 b)) (BitVec.ofNat 32 δ)))) : Ideal .f32)
      = if a = (⟨2 * b + δ, by omega⟩ : Fin 192) then 1 else 0 := by
  rw [word_double]
  exact flag_apply _ _ ((word_eq (by omega) (by omega)).trans (Fin.ext_iff (b := ⟨2 * b + δ, by omega⟩)).symm)

/-- A small word read as a float. -/
theorem word_real {n : ℕ} (h : n < 2 ^ 31) :
    (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- The identity matrix: one on the diagonal. -/
theorem eye_apply (i j : Fin 192) : k0_pay2 (F := Ideal) (ix2 i j) = if i = j then 1 else 0 := by
  unfold k0_pay2
  pointwise
  exact flag_apply _ _ ((word_eq (by omega) (by omega)).trans Fin.ext_iff.symm)

/-- The diagonal sum of a shifted window: the image at row `j + d` and column `j + e`. -/
theorem diag_apply (img : FVec Ideal S384x384 .f32) (d e : ℕ) (hd : d ≤ 192) (he : e ≤ 192) (j : Fin 192) :
    diag img d e hd he (ix2 0 j) = img (ix2 ⟨j + d, by omega⟩ ⟨j + e, by omega⟩) := by
  unfold diag
  pointwise
  simp only [eye_apply, mul_ite, mul_one, mul_zero, Finset.sum_ite_eq', Finset.mem_univ, if_true, Nat.add_comm]

/-- One channel of the staged image. -/
theorem channel_apply (x0 : Vec Ideal S1x3x384x384 .f32) (c : ℕ) (hc : c < 3) (i j : Fin 384) :
    channel x0 c hc (ix2 i j) = x0 (ix4 0 ⟨c, hc⟩ i j) := by
  unfold channel
  rw [shapeCast_apply _ _ _ (ix4 0 0 i j) (by
    rw [Shape.rowMajor_val_two, Shape.rowMajor_val_four]; simp)]
  refine congrArg x0 (funext fun a => Fin.ext ?_)
  fin_cases a <;> simp [LoadRect.idx, Rect.unit]

/-- The even columns of the nine staged planes, stacked. -/
theorem lanes0_apply (x : Vec Ideal S1x9x192x192 .f32) (r : Fin 1728) (j : Fin 96) :
    lanes x 0 (ix2 r j) = x (ix4 0 ⟨r / 192, by omega⟩ ⟨r % 192, by omega⟩ ⟨2 * j + 0, by omega⟩) := by
  unfold lanes
  unfold k0_pay109 k0_pay102 k0_pay107
  pointwise
  simp only [select_apply _ _ 0 (by omega), mul_ite, mul_one, mul_zero, Finset.sum_ite_eq', Finset.mem_univ, if_true]
  rfl

/-- The odd columns of the nine staged planes, stacked. -/
theorem lanes1_apply (x : Vec Ideal S1x9x192x192 .f32) (r : Fin 1728) (j : Fin 96) :
    lanes x 1 (ix2 r j) = x (ix4 0 ⟨r / 192, by omega⟩ ⟨r % 192, by omega⟩ ⟨2 * j + 1, by omega⟩) := by
  unfold lanes
  unfold k0_pay110 k0_pay103 k0_pay107
  pointwise
  simp only [select_apply _ _ 1 (by omega), mul_ite, mul_one, mul_zero, Finset.sum_ite_eq', Finset.mem_univ, if_true]

/-- The offsets of tap `k` at the columns of one parity, read at an element. -/
theorem lanes_apply (x : Vec Ideal S1x9x192x192 .f32) (δ : ℕ) (hδ : δ < 2) (r : Fin 1728) (j : Fin 96) :
    lanes x δ (ix2 r j) = x (ix4 0 ⟨r / 192, by omega⟩ ⟨r % 192, by omega⟩ ⟨2 * j + δ, by omega⟩) := by
  interval_cases δ
  · exact lanes0_apply x r j
  · exact lanes1_apply x r j

/-- The matrix that selects even rows. -/
theorem even_apply (a : Fin 96) (b : Fin 192) :
    k0_pay104 (F := Ideal) (ix2 a b) = if b = (⟨2 * a + 0, by omega⟩ : Fin 192) then 1 else 0 := by
  unfold k0_pay104
  pointwise
  exact select_apply b a 0 (by omega)

/-- The matrix that selects odd rows. -/
theorem odd_apply (a : Fin 96) (b : Fin 192) :
    k0_pay106 (F := Ideal) (iota .tc S96x192 32 [1] iota_S96x192_d1_w32) k0_pay105 (ix2 a b)
      = if b = (⟨2 * a + 1, by omega⟩ : Fin 192) then 1 else 0 := by
  unfold k0_pay106 k0_pay105
  pointwise
  exact select_apply b a 1 (by omega)

/-- Indices with equal coordinates are equal. -/
theorem ix4_congr {n0 n1 n2 n3 : ℕ} {a a' : Fin n0} {b b' : Fin n1} {c c' : Fin n2} {e e' : Fin n3}
    (ha : a = a') (hb : b = b') (hc : c = c') (he : e = e') : ix4 a b c e = ix4 a' b' c' e' := by
  subst ha hb hc he; rfl

/-- A product with a matrix that has a single one in each row selects rows. -/
theorem rows_apply (m : FVec Ideal S96x192 .f32) (f : Fin 96 → Fin 192)
    (hm : ∀ a b, m (ix2 a b) = if b = f a then 1 else 0) (v : FVec Ideal S192x96 .f32) (a b : Fin 96) :
    matmul dot_S96x192_S192x96_S96x96_1_0_0_1_n_n (some .fp32) m v
      (constant S96x96 .f32 0x00000000#32) (ix2 a b) = v (ix2 (f a) b) := by
  pointwise
  simp only [hm, ite_mul, one_mul, zero_mul, Finset.sum_ite_eq', Finset.mem_univ, if_true]

/-- The rows of one tap in the stack. -/
theorem taps_apply (v : FVec Ideal S1728x96 .f32) (k : ℕ) (hk : k < 9) (i : Fin 192) (b : Fin 96) :
    extractStridedSlice S192x96 ![k * 192, 0] v (slices_tap hk) (ix2 i b) = v (ix2 ⟨k * 192 + i, by omega⟩ b) :=
  extractStridedSlice_apply _ _ _ _ (ix2 ⟨k * 192 + i, by omega⟩ b) (by intro a; fin_cases a <;> simp)

/-- The offsets of tap `k` regrouped: at row `r` and column `j` the offset of row `2 r + j / 96` and column `2 (j % 96) + δ`. -/
theorem parity_apply (x : Vec Ideal S1x9x192x192 .f32) (δ : ℕ) (hδ : δ < 2) (k : ℕ) (hk : k < 9)
    (r : Fin 96) (j : Fin 192) :
    parity (lanes x δ) k hk (ix2 r j)
      = x (ix4 0 ⟨k, hk⟩ ⟨2 * r + j / 96, by omega⟩ ⟨2 * (j % 96) + δ, by omega⟩) := by
  unfold parity
  by_cases h : j.val < 96
  · refine (concatenate_pair_apply_left (t := S96x192) (s₁ := S96x96) (s₂ := S96x96) 1 _ _ _ _ rfl (ix2 r ⟨j, h⟩)
      (by intro b; fin_cases b <;> rfl)).trans ?_
    rw [rows_apply _ _ even_apply, taps_apply _ _ hk, lanes_apply _ _ hδ]
    refine congrArg x (ix4_congr rfl (Fin.ext ?_) (Fin.ext ?_) (Fin.ext ?_)) <;> dsimp only <;> omega
  · refine (concatenate_pair_apply_right (t := S96x192) (s₁ := S96x96) (s₂ := S96x96) 1 _ _ _ _ rfl rfl
      (ix2 r ⟨j - 96, by omega⟩) (by intro b hb; fin_cases b; · rfl
                                     · exact absurd rfl hb) (by show j.val - 96 + 96 = j.val; omega)).trans ?_
    rw [rows_apply _ _ odd_apply, taps_apply _ _ hk, lanes_apply _ _ hδ]
    refine congrArg x (ix4_congr rfl (Fin.ext ?_) (Fin.ext ?_) (Fin.ext ?_)) <;> dsimp only <;> omega

/-- The doubled column number within its half of the columns. -/
theorem jcol_apply (j : Fin 192) :
   k0_pay101 (F := Ideal) (iota .tc S1x192 32 [1] iota_S1x192_d1_w32) 96#32 (Scalar.cmpi .eq 96#32 0#32) (ix2 0 j)
     = (((2 * (j.val % 96) : ℕ) : ℝ) : EReal) := by
  unfold k0_pay101
  pointwise
  generalize hw : Scalar.select (α := BitVec 32) (IntOp.andi _ _) _ _ = w
  have : w = BitVec.ofNat 32 (j.val % 96) := by
    rw [← hw]
    clear hw
    revert j
    decide +kernel
  subst this
  rw [Cert.Bridge.lit_two]
  rw [word_real (by omega)]
  rw [← EReal.coe_mul]
  push_cast
  rfl

/-- The column number as a real number. -/
theorem jfull_apply (j : Fin 192) : k0_pay100 (F := Ideal) (ix2 0 j) = ((j.val : ℝ) : EReal) := by
  unfold k0_pay100
  pointwise
  exact word_real (by omega)

/-- Half a plane of the staged kernel weights. -/
theorem term_kernel_apply (x1 : Vec Ideal S1x9x192x192 .f32) (k : ℕ) (hk : k < 9) (h : ℕ) (hh : h < 2) (r : Fin 96) (j : Fin 192) :
    shapeCast S96x192
      (View.ld x1 (Rect.unit (s := S1x9x192x192) ![0, k, h * 96, 0] S1x1x96x192.size (inb_half hk (by omega))))
      shapeCasts_S1x1x96x192_S96x192 (ix2 r j) = x1 (ix4 0 ⟨k, hk⟩ ⟨96 * h + r, by omega⟩ j) := by
  rw [shapeCast_apply _ _ _ (ix4 0 0 r j) (by
    rw [Shape.rowMajor_val_two, Shape.rowMajor_val_four]; simp)]
  refine congrArg x1 (funext fun a => Fin.ext ?_)
  fin_cases a <;> simp [LoadRect.idx, Rect.unit, Nat.mul_comm]

/-- The comparison of a real number with one. -/
theorem oge_one (o : ℝ) : BitVec.ofBool (decide ((1 : EReal) ≤ (o : EReal))) = 1#1 ↔ 1 ≤ o := by
  have : (1 : EReal) ≤ (o : EReal) ↔ 1 ≤ o := by exact_mod_cast EReal.coe_le_coe_iff (x := 1) (y := o)
  by_cases h : (1 : ℝ) ≤ o <;> simp [this, h]

/-- One less one is zero. -/
theorem one_sub_one : (1 : EReal) - 1 = 0 := by
  rw [← EReal.coe_one, ← EReal.coe_sub, sub_self, EReal.coe_zero]

/-- The carry of a whole plane: one where the offset is at least one. -/
theorem carry_apply (off : FVec Ideal S192x192 .f32) (g : ℕ) (hg : g < 3) (i j : Fin 192) (o : ℝ) (ho : off (ix2 i j) = (o : EReal)) :
    carry off g (ix2 i j) = if 1 ≤ o then 1 else 0 := by
  unfold carry
  pointwise
  have e : off (ix2 i j) + Ideal.ofBits .f32 1069547520#32 + Ideal.ofBits .f32 (bits g)
      + (k0_pay100 (F := Ideal) (ix2 0 j) + Ideal.ofBits .f32 1056964608#32)
      - (k0_pay100 (F := Ideal) (ix2 0 j) + Ideal.ofBits .f32 (bits (2 + g))) = (o : EReal) := by
    rw [ho, jfull_apply, Cert.Bridge.lit_three_halves, Cert.Bridge.lit_half, Cert.Bridge.lit_bits (by omega), Cert.Bridge.lit_bits (by omega)]
    simp only [← EReal.coe_add, ← EReal.coe_sub]
    congr 1
    push_cast
    ring
  rw [e]
  exact flag_apply _ _ (oge_one o)

/-- The distance of a sampling position from its grid position is the offset. -/
theorem dist_apply (q : FVec Ideal S96x192 .f32) (g δ : ℕ) (hg : g < 3) (hδ : δ < 2) (r : Fin 96) (j : Fin 192) (o : ℝ)
    (ho : q (ix2 r j) = (o : EReal)) : dist q g δ (ix2 r j) = (o : EReal) := by
  unfold dist col
  pointwise
  rw [ho, jcol_apply, Cert.Bridge.lit_three_halves, Cert.Bridge.lit_half, Cert.Bridge.lit_bits (by omega), Cert.Bridge.lit_bits (by omega), Cert.Bridge.lit_bits (by omega)]
  simp only [← EReal.coe_add, ← EReal.coe_sub]
  congr 1
  push_cast
  ring

/-- The fraction of an offset: the offset less its carry. -/
theorem fracOf_apply (t : FVec Ideal S96x192 .f32) (r : Fin 96) (j : Fin 192) (o : ℝ)
    (ho : t (ix2 r j) = (o : EReal)) : fracOf t (ix2 r j) = ((o - if 1 ≤ o then 1 else 0 : ℝ) : EReal) := by
  unfold fracOf
  pointwise
  rw [ho, flag_apply _ _ (oge_one o)]
  split_ifs <;> simp

/-- The carry of half a plane. -/
theorem carryHalf_apply (x : Vec Ideal S1x9x192x192 .f32) (k : ℕ) (hk : k < 9) (g h : ℕ) (hg : g < 3) (hh : h < 2) (r : Fin 96) (j : Fin 192) (o : ℝ)
    (ho : x (ix4 0 ⟨k, hk⟩ ⟨96 * h + r, by omega⟩ j) = (o : EReal)) :
    carryHalf x k hk g h hh (ix2 r j) = if 1 ≤ o then 1 else 0 := by
  unfold carryHalf
  rw [extractStridedSlice_apply _ _ _ _ (ix2 ⟨96 * h + r, by omega⟩ j) (by
    intro a; fin_cases a <;> simp [Nat.mul_comm])]
  refine carry_apply _ _ hg _ _ o ?_
  rw [shapeCast_apply _ _ _ (ix4 0 0 ⟨96 * h + r, by omega⟩ j) (by
    rw [Shape.rowMajor_val_two, Shape.rowMajor_val_four]; simp), ← ho]
  refine congrArg x (funext fun a => Fin.ext ?_)
  fin_cases a <;> simp [LoadRect.idx, Rect.unit]

/-- The choice among four shifted diagonals: the diagonal that the two carries name. -/
theorem pick_apply (cx cy : FVec Ideal S96x192 .f32) (img : FVec Ideal S384x384 .f32) (d e : ℕ) (hd : d + 1 ≤ 192) (he : e + 1 ≤ 192)
    (r : Fin 96) (j : Fin 192) (p q : Prop) [Decidable p] [Decidable q]
    (hx : cx (ix2 r j) = if p then 1 else 0) (hy : cy (ix2 r j) = if q then 1 else 0) :
    pick cx cy img d e hd he (ix2 r j)
      = img (ix2 ⟨j + d + (if p then 1 else 0), by split_ifs <;> omega⟩ ⟨j + e + (if q then 1 else 0), by split_ifs <;> omega⟩) := by
  unfold pick flip
  pointwise
  simp only [diag_apply, hx, hy, Cert.Bridge.lit_one, EReal.coe_one]
  by_cases hp : p <;> by_cases hq : q <;> simp [hp, hq, one_sub_one, Nat.add_assoc]

/-- A flag as an extended real is the flag as a real number. -/
theorem coe_flag (p : Prop) [Decidable p] : (if p then 1 else 0 : EReal) = ((if p then 1 else 0 : ℝ) : EReal) := by
  split_ifs <;> simp

section Block

open Cert.Bridge

variable (x0 : Vec Ideal S1x3x384x384 .f32) (x1 x2 x3 : Vec Ideal S1x9x192x192 .f32)
  (img : Fin 3 → Fin 384 → Fin 384 → EReal) (ker : Fin 9 → Fin 192 → Fin 192 → EReal) (ox oy : Fin 9 → Fin 192 → Fin 192 → ℝ)

/-- The fraction that a weight is made of is that of the offset `source` names. -/
theorem frac_apply (x : Vec Ideal S1x9x192x192 .f32) (o : Fin 9 → Fin 192 → Fin 192 → ℝ)
    (hx : ∀ k i j, x (ix4 0 k i j) = (o k i j : EReal)) (k : Fin 9) (b : ℕ) (hb : b < 2) (h : ℕ) (hh : h < 2)
    (g : ℕ) (hg : g < 3) (r : Fin 96) (j : Fin 192) :
    frac x (tap k b) (tap_lt k b) g ((2 * k + b) / 9) (ix2 r j)
      = (part (source o k b hb ⟨96 * h + r, by omega⟩ j) : EReal) := by
  unfold frac
  refine (fracOf_apply _ r j _ (dist_apply _ _ _ hg (by omega) r j _
    ((parity_apply x _ (by omega) _ (tap_lt k b) r j).trans (hx _ _ _)))).trans ?_
  unfold part step source tap
  congr 1
  have e : (96 * h + r.val) % 96 = r.val := by omega
  simp only [e]
  split_ifs <;> simp

/-- A weight of half `h`: the complement of the fraction in the upper half, the fraction in the lower. -/
theorem weight_apply (p : FVec Ideal S96x192 .f32) (h : ℕ) (hh : h < 2) (r : Fin 96) (j : Fin 192) (o : ℝ)
    (hp : p (ix2 r j) = (o : EReal)) :
    weight h p (ix2 r j) = ((if 96 * h + r.val < 96 then 1 - o else o : ℝ) : EReal) := by
  rcases h with _ | h
  · have hr : 96 * 0 + r.val < 96 := by omega
    unfold weight
    pointwise
    simp only [hp, if_pos hr]
    exact (EReal.coe_sub 1 o).symm
  · have hr : ¬ (96 * (h + 1) + r.val < 96) := by omega
    rw [if_neg hr]
    exact hp

/-- The weight of a row position. -/
theorem wx_apply (x : Vec Ideal S1x9x192x192 .f32) (o : Fin 9 → Fin 192 → Fin 192 → ℝ)
    (hx : ∀ k i j, x (ix4 0 k i j) = (o k i j : EReal)) (k : Fin 9) (b : ℕ) (hb : b < 2) (h : ℕ) (hh : h < 2)
    (r : Fin 96) (j : Fin 192) :
    wx x k b h (ix2 r j) = (Bridge.weight o k b hb ⟨96 * h + r, by omega⟩ j : EReal) :=
  weight_apply _ h hh r j _ (frac_apply x o hx k b hb h hh _ (by have := tap_lt k b; omega) r j)

/-- The weight of a column position. -/
theorem wy_apply (x : Vec Ideal S1x9x192x192 .f32) (o : Fin 9 → Fin 192 → Fin 192 → ℝ)
    (hx : ∀ k i j, x (ix4 0 k i j) = (o k i j : EReal)) (k : Fin 9) (b : ℕ) (hb : b < 2) (h : ℕ) (hh : h < 2)
    (r : Fin 96) (j : Fin 192) :
    wy x k b h (ix2 r j) = (Bridge.weight o k b hb ⟨96 * h + r, by omega⟩ j : EReal) :=
  weight_apply _ h hh r j _ (frac_apply x o hx k b hb h hh _ (by have := tap_lt k b; omega) r j)

/-- One of the twelve reads of a tap is the corner of that number. -/
theorem read_apply (h0 : ∀ c i j, x0 (ix4 0 c i j) = img c i j)
    (h2 : ∀ k i j, x2 (ix4 0 k i j) = (ox k i j : EReal)) (h3 : ∀ k i j, x3 (ix4 0 k i j) = (oy k i j : EReal))
    (k : Fin 9) (h : ℕ) (hh : h < 2) (f : ℕ) (hf : f < 12) (r : Fin 96) (j : Fin 192) :
    read x0 x2 x3 k k.isLt h hh f hf (ix2 r j) = corner img ox oy k ⟨96 * h + r, by omega⟩ j f hf := by
  unfold read
  rw [pick_apply _ _ _ _ _ _ _ r j _ _
    (carryHalf_apply x2 k k.isLt _ h (by omega) hh r j _ (h2 k _ j))
    (carryHalf_apply x3 k k.isLt _ h (by omega) hh r j _ (h3 k _ j)), channel_apply, h0]
  rfl

/-- One tap contributes its kernel weight times its sample. -/
theorem term_apply (h0 : ∀ c i j, x0 (ix4 0 c i j) = img c i j) (h1 : ∀ k i j, x1 (ix4 0 k i j) = ker k i j)
    (h2 : ∀ k i j, x2 (ix4 0 k i j) = (ox k i j : EReal)) (h3 : ∀ k i j, x3 (ix4 0 k i j) = (oy k i j : EReal))
    (k : Fin 9) (h : ℕ) (hh : h < 2) (c : Fin 3) (r : Fin 96) (j : Fin 192) :
    term x0 x1 x2 x3 k k.isLt h hh c c.isLt (ix2 r j)
      = ker k ⟨96 * h + r, by omega⟩ j * sample img ox oy c k ⟨96 * h + r, by omega⟩ j := by
  unfold term sample
  simp only [mulf_apply, addf_apply]
  rw [term_kernel_apply _ _ k.isLt _ hh, h1, wx_apply x2 ox h2 k 0 (by omega) h hh, wx_apply x2 ox h2 k 1 (by omega) h hh,
    wy_apply x3 oy h3 k 0 (by omega) h hh, wy_apply x3 oy h3 k 1 (by omega) h hh]
  rw [read_apply x0 x2 x3 img ox oy h0 h2 h3 k h hh c, read_apply x0 x2 x3 img ox oy h0 h2 h3 k h hh (3 + c),
    read_apply x0 x2 x3 img ox oy h0 h2 h3 k h hh (6 + c), read_apply x0 x2 x3 img ox oy h0 h2 h3 k h hh (9 + c)]
  simp only [EReal.coe_mul]
  rfl

/-- After `n` taps the accumulator holds the sum of their contributions. -/
theorem acc_apply (h0 : ∀ c i j, x0 (ix4 0 c i j) = img c i j) (h1 : ∀ k i j, x1 (ix4 0 k i j) = ker k i j)
    (h2 : ∀ k i j, x2 (ix4 0 k i j) = (ox k i j : EReal)) (h3 : ∀ k i j, x3 (ix4 0 k i j) = (oy k i j : EReal))
    (h : ℕ) (hh : h < 2) (c : Fin 3) (r : Fin 96) (j : Fin 192) (n : ℕ) (hn : n ≤ 9) :
    acc x0 x1 x2 x3 h hh c c.isLt n hn (ix2 r j)
      = ∑ k : Fin n, ker (k.castLE hn) ⟨96 * h + r, by omega⟩ j * sample img ox oy c (k.castLE hn) ⟨96 * h + r, by omega⟩ j := by
  induction n with
  | zero => unfold acc; pointwise; simp
  | succ n ih =>
    rw [Fin.sum_univ_castSucc, acc, addf_apply, ih (by omega)]
    exact congrArg (_ + ·) (term_apply x0 x1 x2 x3 img ker ox oy h0 h1 h2 h3 ⟨n, by omega⟩ h hh c r j)

/-- What is stored for one channel and one half of the rows. -/
theorem piece_apply (h0 : ∀ c i j, x0 (ix4 0 c i j) = img c i j) (h1 : ∀ k i j, x1 (ix4 0 k i j) = ker k i j)
    (h2 : ∀ k i j, x2 (ix4 0 k i j) = (ox k i j : EReal)) (h3 : ∀ k i j, x3 (ix4 0 k i j) = (oy k i j : EReal))
    (h : ℕ) (hh : h < 2) (c : Fin 3) (r : Fin 96) (j : Fin 192) :
    piece x0 x1 x2 x3 h hh c c.isLt (ix4 0 0 r j) = soft (total img ker ox oy c ⟨96 * h + r, by omega⟩ j) := by
  unfold piece
  rw [shapeCast_apply _ _ _ (ix2 r j) (by
    rw [Shape.rowMajor_val_two, Shape.rowMajor_val_four]; simp)]
  have e : acc x0 x1 x2 x3 h hh c c.isLt 9 (by omega) (ix2 r j) = total img ker ox oy c ⟨96 * h + r, by omega⟩ j :=
    acc_apply x0 x1 x2 x3 img ker ox oy h0 h1 h2 h3 h hh c r j 9 (by omega)
  unfold round soft
  rw [← e]
  simp only [subf_apply, mulf_apply]
  rw [← named_inv]
  rfl

/-- What one grid point leaves in its block of the result, at channel `c`, row `i` and column `j`. -/
theorem block_apply (h0 : ∀ c i j, x0 (ix4 0 c i j) = img c i j) (h1 : ∀ k i j, x1 (ix4 0 k i j) = ker k i j)
    (h2 : ∀ k i j, x2 (ix4 0 k i j) = (ox k i j : EReal)) (h3 : ∀ k i j, x3 (ix4 0 k i j) = (oy k i j : EReal))
    (y : S1x3x192x192.Idx) :
    out0_4 x0 x1 x2 x3 y = soft (total img ker ox oy (y 1) (y 2) (y 3)) := by
  have main : ∀ (h : ℕ) (hh : h < 2) (c : Fin 3) (x : S1x1x96x192.Idx), (y 1).val = c + (x 1).val →
      (y 2).val = 96 * h + (x 2).val → (y 3).val = (x 3).val →
      piece x0 x1 x2 x3 h hh c c.isLt x = soft (total img ker ox oy (y 1) (y 2) (y 3)) := by
    intro h hh c x e1 e2 e3
    have q1 : (x 1).val < 1 := (x 1).isLt
    have hx : x = ix4 0 0 (x 2) (x 3) := by
      funext a
      fin_cases a
      · exact Subsingleton.elim (α := Fin 1) _ _
      · exact Subsingleton.elim (α := Fin 1) _ _
      · rfl
      · rfl
    rw [hx]
    refine (piece_apply x0 x1 x2 x3 img ker ox oy h0 h1 h2 h3 h hh c (x 2) (x 3)).trans ?_
    have f1 : (y 1) = c := Fin.ext (by omega)
    have f2 : (y 2) = (⟨96 * h + (x 2).val, by have := (x 2).isLt; have : (x 2).val < 96 := this; omega⟩ : Fin 192) := Fin.ext e2
    have f3 : (y 3) = (x 3) := Fin.ext e3
    rw [f1, f2, f3]
  rw [out_eq]
  canon_tiles x h
  all_goals
    refine main _ (by decide) ⟨_, by decide⟩ x ?_ ?_ ?_
    all_goals
      dsimp only
      omega

end Block

end Cert.KernelIdeal.Model

end
-- ==== Proof.Array.lean ====
module

public import proofs.«01_k».proof.Proof.Block

@[expose] public section

/-! The kernel's result after the run: every block of the grid written back, then the transpose that follows. -/

set_option maxRecDepth 16384

noncomputable section

namespace Cert.KernelIdeal.Model

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-- The images of core `c`, one batch. -/
def imageOf (c : Dev nD) (b : Fin 2) : Fin 3 → Fin 384 → Fin 384 → EReal :=
  fun ch i j => (m ((c : Thread nD τ).loc main_arg0) : S2x3x384x384.Idx → EReal) (ix4 b ch i j)

/-- The kernel weights of core `c`, one batch. -/
def kernelOf (c : Dev nD) (b : Fin 2) : Fin 9 → Fin 192 → Fin 192 → EReal :=
  fun k i j => (m ((c : Thread nD τ).loc main_arg1) : S2x9x192x192.Idx → EReal) (ix4 b k i j)

/-- Both offset arrays of core `c` hold the real numbers `ox` and `oy`. -/
def Offsets (c : Dev nD) (ox oy : Fin 2 → Fin 9 → Fin 192 → Fin 192 → ℝ) : Prop :=
  (∀ b k i j, (m ((c : Thread nD τ).loc main_arg2) : S2x9x192x192.Idx → EReal) (ix4 b k i j) = (ox b k i j : EReal))
  ∧ (∀ b k i j, (m ((c : Thread nD τ).loc main_arg3) : S2x9x192x192.Idx → EReal) (ix4 b k i j) = (oy b k i j : EReal))

/-- The array the region writes: batch, channel, row, column. -/
def planes (c : Dev nD) (ox oy : Fin 2 → Fin 9 → Fin 192 → Fin 192 → ℝ) : S2x3x192x192.Idx → EReal :=
  fun i => soft (total (imageOf m c (i 0)) (kernelOf m c (i 0)) (ox (i 0)) (oy (i 0)) (i 1) (i 2) (i 3))

/-- Grid point `t` stages batch `t` of every window. -/
theorem index_at : ∀ t : Fin grid0.N, win0_0.index t = ![t.val, 0, 0, 0] ∧ win0_1.index t = ![t.val, 0, 0, 0]
    ∧ win0_2.index t = ![t.val, 0, 0, 0] ∧ win0_3.index t = ![t.val, 0, 0, 0] ∧ win0_4.index t = ![t.val, 0, 0, 0] := by
  decide +kernel

/-- After the region the output window's array holds `planes`. -/
theorem array_eq (c : Dev nD) (ox oy : Fin 2 → Fin 9 → Fin 192 → Fin 192 → ℝ) (h : Offsets m c ox oy) :
    (dats m 0 c).arrAt 4 cfg0.N = planes m c ox oy := by
  refine (dats m 0 c).arrAt_eq_of_covers 4 _ (by decide +kernel) fun t hf y => ?_
  have e0 := (index_at t).1
  have e1 := (index_at t).2.1
  have e2 := (index_at t).2.2.1
  have e3 := (index_at t).2.2.2.1
  have e4 := (index_at t).2.2.2.2
  have ht : t.val < 2 := t.isLt
  blk_simp
  rw [after0_4]
  refine (block_apply (iblk m c 0 t) (iblk m c 1 t) (iblk m c 2 t) (iblk m c 3 t) (imageOf m c ⟨t, ht⟩) (kernelOf m c ⟨t, ht⟩)
    (ox ⟨t, ht⟩) (oy ⟨t, ht⟩) (fun ch i j => ?_) (fun k i j => ?_) (fun k i j => ?_) (fun k i j => ?_) y).trans ?_
  · blk_ext [iblk, V, e0]
  · blk_ext [iblk, V, e1]
  · refine Eq.trans ?_ (h.1 ⟨t, ht⟩ k i j)
    blk_ext [iblk, V, e2]
  · refine Eq.trans ?_ (h.2 ⟨t, ht⟩ k i j)
    blk_ext [iblk, V, e3]
  · have f0 : (win0_4.blk t).view.emb y 0 = (⟨t.val, ht⟩ : Fin 2) := Fin.ext (by blk_simp [e4])
    have f1 : (win0_4.blk t).view.emb y 1 = (y 1 : Fin 3) := Fin.ext (by blk_simp [e4])
    have f2 : (win0_4.blk t).view.emb y 2 = (y 2 : Fin 192) := Fin.ext (by blk_simp [e4])
    have f3 : (win0_4.blk t).view.emb y 3 = (y 3 : Fin 192) := Fin.ext (by blk_simp [e4])
    unfold planes
    rw [f0, f1, f2, f3]

/-- The result: batch, row, column, channel. -/
def result (c : Dev nD) (ox oy : Fin 2 → Fin 9 → Fin 192 → Fin 192 → ℝ) : S2x192x192x3.Idx → EReal :=
  fun i => soft (total (imageOf m c (i 0)) (kernelOf m c (i 0)) (ox (i 0)) (oy (i 0)) (i 3) (i 1) (i 2))

/-- The transposition after the region turns the planes into the result. -/
theorem transpose_planes (c : Dev nD) (ox oy : Fin 2 → Fin 9 → Fin 192 → Fin 192 → ℝ) (x : FVec Ideal S2x3x192x192 .f32)
    (hx : x = planes m c ox oy) :
    transpose S2x192x192x3 [0, 2, 3, 1] x transposes_S2x3x192x192_S2x192x192x3_0_2_3_1 = result m c ox oy := by
  funext i
  idx_vars i
  pointwise
  rw [hx]
  rfl

/-- What the transpose after the region leaves in the result's buffer. -/
theorem tail_eq (c : Dev nD) (ox oy : Fin 2 → Fin 9 → Fin 192 → Fin 192 → ℝ) (h : Offsets m c ox oy) :
    Pipeline.afterTail₀ cfgs (dats m) 0 (V0 m) [hostOps1] c main_v1 = result m c ox oy := by
  refine Eq.trans ?_ (transpose_planes m c ox oy _ (array_eq m c ox oy h))
  unfold Pipeline.afterTail₀
  simp only [List.flatten_cons, List.flatten_nil, List.append_nil]
  after_results
  congr 1
  exact Pipeline.withArrays_arr (cfgs 0).spec winFacts0.arr_inj c (V0 m c) (fun w => (dats m 0 c).arrAt w (cfgs 0).N) 4

/-- Every run ends with the result's buffer at `result` and the arguments as they were. -/
theorem run (ox oy : Dev nD → Fin 2 → Fin 9 → Fin 192 → Fin 192 → ℝ) (h : ∀ c, Offsets m c (ox c) (oy c)) :
    θ_run defs (onTc (τ := τ) (main (F := Ideal))) ⟨m, fun _ => 0, ρ⟩ fun r => ∀ c : Dev nD,
      r.2.mem ((c.tc : Thread nD τ).loc main_v1) = result m c (ox c) (oy c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ q c => ⟨(q.1.rest_eq c main_v1 (by decide)).trans (tail_eq m c (ox c) (oy c) (h c)), q.2 c⟩)
    (θ_run_and (run_main m ρ) (unchanged m ρ))

end Cert.KernelIdeal.Model

end
-- ==== Proof.RefCoords.lean ====
module

public import Idealize.ShloMosaic.Lib.Pointwise
public import proofs.«01_k».proof.Proof.Gen.ReferenceIdeal.Run
public import proofs.«01_k».proof.Proof.Consts
public import proofs.«01_k».proof.Proof.Spec

@[expose] public section

/-! The reference's sampling positions, read at an index. -/

set_option maxRecDepth 16384

noncomputable section

namespace Cert.ReferenceIdeal.Point

open Idealize.ShloMosaic Idealize.ShloMosaic.StableHlo
open Cert.ReferenceIdeal Cert.ReferenceIdeal.Gen Cert.ReferenceIdeal.Value Cert.Bridge

variable (V0 : Valuation τ sig (Elt Ideal))

/-- The place of tap `k` of pixel `(i, j)` in a list over row, column and tap. -/
def pos (i j : Fin 192) (k : Fin 9) : Fin 331776 := ⟨(192 * i + j) * 9 + k, by omega⟩

/-- A small word read as a signed integer. -/
theorem toInt_word (n : ℕ) (hn : n < 2 ^ 31) : (BitVec.ofNat 32 n).toInt = (n : ℤ) := by
  rw [BitVec.toInt_eq_toNat_of_lt (by rw [BitVec.toNat_ofNat]; omega), BitVec.toNat_ofNat]
  omega

/-- A small word converted to a float. -/
theorem real_word (n : ℕ) (hn : n < 2 ^ 31) : FloatOps.sitofp (F := Ideal) .f32 (BitVec.ofNat 32 n) = ((n : ℝ) : EReal) := by
  show (((BitVec.ofNat 32 n).toInt : ℝ) : EReal) = _
  rw [toInt_word n hn]
  simp

/-- The centre of row or column `j` of the grid. -/
theorem centre_apply (j : Fin 192) : res_main_v9 V0 (ix1 j) = (((j.val : ℝ) + 1 / 2 : ℝ) : EReal) := by
  unfold res_main_v9
  rw [id]
  pointwise
  rw [real_word _ (by omega), lit_half]
  rw [← EReal.coe_one, ← EReal.coe_add, ← EReal.coe_sub]
  congr 1
  ring

/-- The row of tap `k` in its three by three square. -/
theorem tapRow_apply (k : Fin 9) :
    (sitofp .f32 (shapeCast S9 (broadcastInDim S3x3 ![0] bcast_S3_S3x3_0 (iotaInDim S3 32 0)) shapeCasts_S3x3_S9) : FVec Ideal S9 .f32) (ix1 k)
      = (((k.val / 3 : ℕ) : ℝ) : EReal) := by
  pointwise
  exact real_word _ (by omega)

/-- The column of tap `k` in its three by three square. -/
theorem tapCol_apply (k : Fin 9) :
    (sitofp .f32 (shapeCast S9 (broadcastInDim S3x3 ![0, 1] bcast_S1x3_S3x3_0_1 (shapeCast S1x3 (iotaInDim S3 32 0) shapeCasts_S3_S1x3)) shapeCasts_S3x3_S9) : FVec Ideal S9 .f32) (ix1 k)
      = (((k.val % 3 : ℕ) : ℝ) : EReal) := by
  pointwise
  exact real_word _ (by omega)

/-- An array by row, column and tap, read in the flat list. -/
theorem flat_apply (x : FVec Ideal S2x192x192x9 .f32) (b : Fin 2) (i j : Fin 192) (k : Fin 9) :
    shapeCast S2x331776 x shapeCasts_S2x192x192x9_S2x331776 (ix2 b (pos i j k)) = x (ix4 b i j k) := by
  refine shapeCast_apply _ _ _ _ ?_
  rw [Shape.rowMajor_val_two, Shape.rowMajor_val_four]
  simp [pos]
  omega

/-- The centres repeated for every tap. -/
theorem column_apply (x : FVec Ideal S192 .f32) (j : Fin 192) (k : Fin 9) :
    shapeCast S192x9 (broadcastInDim S1x192x9x1 ![0, 1, 2, 3] bcast_S1x192x1x1_S1x192x9x1_0_1_2_3 (shapeCast S1x192x1x1 (shapeCast S192x1 x shapeCasts_S192_S192x1) shapeCasts_S192x1_S1x192x1x1)) shapeCasts_S1x192x9x1_S192x9 (ix2 j k)
      = x (ix1 j) := by
  pointwise

/-- A sampling position: the offset, plus one and a half, plus the tap, plus the centre. -/
theorem place_apply (x : FVec Ideal S2x9x192x192 .f32) (g : FVec Ideal S9 .f32) (u : FVec Ideal S192x9 .f32)
    (b : Fin 2) (i j : Fin 192) (k : Fin 9) :
    addf (addf (addf (transpose S2x192x192x9 [0, 2, 3, 1] x transposes_S2x9x192x192_S2x192x192x9_0_2_3_1)
      (broadcastInDim S2x192x192x9 ![] bcast_S_S2x192x192x9 (constant S_ .f32 0x3FC00000#32)))
      (broadcastInDim S2x192x192x9 ![0, 1, 2, 3] bcast_S1x1x1x9_S2x192x192x9_0_1_2_3 (broadcastInDim S1x1x1x9 ![3] bcast_S9_S1x1x1x9_3 g)))
      (broadcastInDim S2x192x192x9 ![0, 1, 2, 3] bcast_S1x1x192x9_S2x192x192x9_0_1_2_3 (broadcastInDim S1x1x192x9 ![2, 3] bcast_S192x9_S1x1x192x9_2_3 u))
      (ix4 b i j k)
    = x (ix4 b k i j) + ((3 / 2 : ℝ) : EReal) + g (ix1 k) + u (ix2 j k) := by
  pointwise
  rw [lit_three_halves]

/-- The row position of tap `k` at pixel `(i, j)`, as a real number. -/
theorem x_apply (b : Fin 2) (i j : Fin 192) (k : Fin 9) (o : ℝ)
    (h : (V0 (Proc.devRef .tc main_arg2) : FVec Ideal S2x9x192x192 .f32) (ix4 b k i j) = (o : EReal)) :
    res_main_v44 V0 (ix2 b (pos i j k)) = ((((2 + k.val / 3 + j.val : ℕ) : ℝ) + o : ℝ) : EReal) := by
  unfold res_main_v44
  refine (flat_apply _ b i j k).trans ((place_apply _ _ _ b i j k).trans ?_)
  rw [tapRow_apply, column_apply, centre_apply, h, ← EReal.coe_add, ← EReal.coe_add, ← EReal.coe_add]
  congr 1
  push_cast
  ring

/-- The column position of tap `k` at pixel `(i, j)`, as a real number. -/
theorem y_apply (b : Fin 2) (i j : Fin 192) (k : Fin 9) (o : ℝ)
    (h : (V0 (Proc.devRef .tc main_arg3) : FVec Ideal S2x9x192x192 .f32) (ix4 b k i j) = (o : EReal)) :
    res_main_v45 V0 (ix2 b (pos i j k)) = ((((2 + k.val % 3 + j.val : ℕ) : ℝ) + o : ℝ) : EReal) := by
  unfold res_main_v45
  refine (flat_apply _ b i j k).trans ((place_apply _ _ _ b i j k).trans ?_)
  rw [tapCol_apply, column_apply, centre_apply, h, ← EReal.coe_add, ← EReal.coe_add, ← EReal.coe_add]
  congr 1
  push_cast
  ring

/-- The cell a position lies in, as a word: the integer part of `n + o` for an offset `o` between zero and two. -/
theorem cell_word {s : Shape} (x : FVec Ideal s .f32) (i : s.Idx) (n : ℕ) (hn : n ≤ 195) (o : ℝ) (h0 : 0 ≤ o) (h2 : o < 2)
    (hx : x i = (((n : ℝ) + o : ℝ) : EReal)) :
    (fptosi 32 (Host.floor x) : IVec s 32) i = BitVec.ofNat 32 (n + step o) := by
  have e : ⌊(n : ℝ) + o⌋ = ((n + step o : ℕ) : ℤ) := by
    rw [Int.floor_eq_iff]
    unfold step
    split_ifs with h <;> push_cast <;> constructor <;> linarith
  have hs := step_le o
  show Ideal.fptosi 32 (Ideal.liftRound Int.floor (x i)) = _
  rw [hx]
  show Ideal.fptosi 32 (((⌊(n : ℝ) + o⌋ : ℤ) : ℝ) : EReal) = _
  rw [e]
  unfold Ideal.fptosi
  rw [Ideal.toIntClamped_coe, if_pos (by positivity), Int.floor_intCast, max_eq_right (by norm_num; omega), min_eq_right (by norm_num; omega)]
  exact BitVec.ofInt_natCast 32 _

section Cells

variable {V0} {b : Fin 2} {i j : Fin 192} {k : Fin 9} {o : ℝ}

/-- Clipping leaves a cell of the image alone. -/
theorem clip_word (n : ℕ) (hn : n < 384) :
    IntOp.minsi 383#32 (IntOp.maxsi 0#32 (BitVec.ofNat 32 n)) = BitVec.ofNat 32 n := by
  have e := toInt_word n (by omega)
  have h1 : (BitVec.ofNat 32 n).slt 0#32 = false := by
    rw [BitVec.slt, e]
    exact decide_eq_false (by simp)
  have h2 : (383#32).slt (BitVec.ofNat 32 n) = false := by
    rw [BitVec.slt, e]
    exact decide_eq_false (by rw [show (383#32).toInt = 383 from rfl]; omega)
  have q : IntOp.maxsi 0#32 (BitVec.ofNat 32 n) = BitVec.ofNat 32 n := by simp [IntOp.maxsi, h1]
  rw [q]
  simp [IntOp.minsi, h2]

/-- The next cell. -/
theorem next_word (n : ℕ) : IntOp.addi (BitVec.ofNat 32 n) 1#32 = BitVec.ofNat 32 (n + 1) := by
  show BitVec.ofNat 32 n + BitVec.ofNat 32 1 = _
  rw [← BitVec.ofNat_add]

/-- The cell of the row position. -/
theorem x0_apply (h0 : 0 ≤ o) (h2 : o < 2)
    (h : (V0 (Proc.devRef .tc main_arg2) : FVec Ideal S2x9x192x192 .f32) (ix4 b k i j) = (o : EReal)) :
    res_main_v54 V0 (ix2 b (pos i j k)) = BitVec.ofNat 32 (2 + k.val / 3 + j.val + step o) := by
  have e := cell_word (res_main_v44 V0) _ _ (by omega) o h0 h2 (x_apply V0 b i j k o h)
  have hs := step_le o
  unfold res_main_v54 res_main_v47
  generalize fptosi 32 (Host.floor (res_main_v44 V0)) = w at e ⊢
  pointwise
  rw [e]
  exact clip_word _ (by omega)

/-- The cell after that of the row position. -/
theorem x1_apply (h0 : 0 ≤ o) (h2 : o < 2)
    (h : (V0 (Proc.devRef .tc main_arg2) : FVec Ideal S2x9x192x192 .f32) (ix4 b k i j) = (o : EReal)) :
    res_main_v55 V0 (ix2 b (pos i j k)) = BitVec.ofNat 32 (2 + k.val / 3 + j.val + step o + 1) := by
  have e := cell_word (res_main_v44 V0) _ _ (by omega) o h0 h2 (x_apply V0 b i j k o h)
  have hs := step_le o
  unfold res_main_v55 res_main_v47
  generalize fptosi 32 (Host.floor (res_main_v44 V0)) = w at e ⊢
  pointwise
  rw [e, next_word]
  exact clip_word _ (by omega)

/-- The cell of the column position. -/
theorem y0_apply (h0 : 0 ≤ o) (h2 : o < 2)
    (h : (V0 (Proc.devRef .tc main_arg3) : FVec Ideal S2x9x192x192 .f32) (ix4 b k i j) = (o : EReal)) :
    res_main_v56 V0 (ix2 b (pos i j k)) = BitVec.ofNat 32 (2 + k.val % 3 + j.val + step o) := by
  have e := cell_word (res_main_v45 V0) _ _ (by omega) o h0 h2 (y_apply V0 b i j k o h)
  have hs := step_le o
  unfold res_main_v56 res_main_v51
  generalize fptosi 32 (Host.floor (res_main_v45 V0)) = w at e ⊢
  pointwise
  rw [e]
  exact clip_word _ (by omega)

/-- The cell after that of the column position. -/
theorem y1_apply (h0 : 0 ≤ o) (h2 : o < 2)
    (h : (V0 (Proc.devRef .tc main_arg3) : FVec Ideal S2x9x192x192 .f32) (ix4 b k i j) = (o : EReal)) :
    res_main_v57 V0 (ix2 b (pos i j k)) = BitVec.ofNat 32 (2 + k.val % 3 + j.val + step o + 1) := by
  have e := cell_word (res_main_v45 V0) _ _ (by omega) o h0 h2 (y_apply V0 b i j k o h)
  have hs := step_le o
  unfold res_main_v57 res_main_v51
  generalize fptosi 32 (Host.floor (res_main_v45 V0)) = w at e ⊢
  pointwise
  rw [e, next_word]
  exact clip_word _ (by omega)

end Cells

end Cert.ReferenceIdeal.Point

end
-- ==== Proof.RefImage.lean ====
module

public import proofs.«01_k».proof.Proof.RefCoords

@[expose] public section

/-! The reference's corner reads, read at an index. -/

set_option maxRecDepth 16384

noncomputable section

namespace Cert.ReferenceIdeal.Point

open Idealize.ShloMosaic Idealize.ShloMosaic.StableHlo
open Cert.ReferenceIdeal Cert.ReferenceIdeal.Gen Cert.ReferenceIdeal.Value Cert.Bridge

/-- A word that is not negative is not wrapped around. -/
theorem wrap_word (n q : ℕ) (hn : n < 2 ^ 31) :
    Scalar.select (IntOp.cmpi .slt (BitVec.ofNat 32 n) 0#32) (IntOp.addi (BitVec.ofNat 32 n) (BitVec.ofNat 32 q)) (BitVec.ofNat 32 n) = BitVec.ofNat 32 n := by
  have h1 : (BitVec.ofNat 32 n).slt 0#32 = false := by
    rw [BitVec.slt, toInt_word n hn]
    exact decide_eq_false (by simp)
  show (if IntOp.cmpi .slt (BitVec.ofNat 32 n) 0#32 = 1#1 then _ else _) = _
  rw [if_neg]
  show ¬ BitVec.ofBool ((BitVec.ofNat 32 n).slt 0#32) = 1#1
  rw [h1]
  decide

/-- The three index columns of one of the four gathers. -/
abbrev places (B : IVec S2x1 32) (X Y : IVec S2x331776 32) : IVec S2x331776x3 32 :=
  concatenate S2x331776x3 2 [
    ⟨S2x331776x1, broadcastInDim S2x331776x1 ![0, 1] bcast_S2x331776_S2x331776x1_0_1 (broadcastInDim S2x331776 ![0, 1] bcast_S2x1_S2x331776_0_1 (select (cmpi .slt B (broadcastInDim S2x1 ![] bcast_S_S2x1 (constantI S_ 32 0#32))) (addi B (broadcastInDim S2x1 ![] bcast_S_S2x1 (constantI S_ 32 2#32))) B))⟩,
    ⟨S2x331776x1, broadcastInDim S2x331776x1 ![0, 1] bcast_S2x331776_S2x331776x1_0_1 (select (cmpi .slt X (broadcastInDim S2x331776 ![] bcast_S_S2x331776 (constantI S_ 32 0#32))) (addi X (broadcastInDim S2x331776 ![] bcast_S_S2x331776 (constantI S_ 32 384#32))) X)⟩,
    ⟨S2x331776x1, broadcastInDim S2x331776x1 ![0, 1] bcast_S2x331776_S2x331776x1_0_1 (select (cmpi .slt Y (broadcastInDim S2x331776 ![] bcast_S_S2x331776 (constantI S_ 32 0#32))) (addi Y (broadcastInDim S2x331776 ![] bcast_S_S2x331776 (constantI S_ 32 384#32))) Y)⟩]
    concatenates_S2x331776x1_S2x331776x1_S2x331776x1_S2x331776x3_d2

/-- The gather reads the image at the three coordinates of the list, each brought into the image. -/
theorem gather_apply (x : FVec Ideal S2x384x384x3 .f32) (q : IVec S2x331776x3 32) (b : Fin 2) (p : Fin 331776) (c : Fin 3) :
    Host.gather gather_S2x384x384x3_S2x331776x3_S2x331776x3_2_012_n_n_012_2_1113 x q (ix3 b p c)
      = x (ix4 ⟨min (q (ix3 b p 0)).toInt.toNat 1, by omega⟩ ⟨min (q (ix3 b p 1)).toInt.toNat 383, by omega⟩
          ⟨min (q (ix3 b p 2)).toInt.toNat 383, by omega⟩ c) := by
  unfold Host.gather
  congr 1
  funext a
  refine Fin.ext ?_
  show GatherDims.start _ (ix3 b p c) q a + GatherDims.batchCoord _ (ix3 b p c) a + GatherDims.offCoord _ (ix3 b p c) a = _
  rw [GatherDims.batchCoord_eq_zero _ _ _ List.not_mem_nil, Nat.add_zero]
  have key : ∀ (a : Fin 4) (e : Fin 3) (ha : a ∈ gather_S2x384x384x3_S2x331776x3_S2x331776x3_2_012_n_n_012_2_1113.startIndexMap),
      GatherDims.siIdx _ (ix3 b p c) ⟨List.idxOf a gather_S2x384x384x3_S2x331776x3_S2x331776x3_2_012_n_n_012_2_1113.startIndexMap,
        List.idxOf_lt_length_iff.2 ha⟩ = ix3 b p e →
      GatherDims.start gather_S2x384x384x3_S2x331776x3_S2x331776x3_2_012_n_n_012_2_1113 (ix3 b p c) q a
        + GatherDims.offCoord gather_S2x384x384x3_S2x331776x3_S2x331776x3_2_012_n_n_012_2_1113 (ix3 b p c) a
        = min (q (ix3 b p e)).toInt.toNat (S2x384x384x3.size a - ![1, 1, 1, 3] a) := by
    intro a e ha he
    rw [GatherDims.offCoord_eq_zero _ _ _ (fun h => ((GatherDims.mem_sKept _ _).mp h).1 ha), Nat.add_zero]
    unfold GatherDims.start
    rw [dif_pos ha, he]
    rfl
  fin_cases a
  · exact key 0 0 (by decide) (by funext d; fin_cases d <;> rfl)
  · exact key 1 1 (by decide) (by funext d; fin_cases d <;> rfl)
  · exact key 2 2 (by decide) (by funext d; fin_cases d <;> rfl)
  · unfold GatherDims.start
    rw [dif_neg (by decide), Nat.zero_add]
    rfl

/-- The three coordinates of the list: batch, row position and column position. -/
theorem places_apply (B : IVec S2x1 32) (X Y : IVec S2x331776 32) (b : Fin 2) (p : Fin 331776) (nx ny : ℕ)
    (hx : nx < 384) (hy : ny < 384) (hB : B (ix2 b 0) = BitVec.ofNat 32 b) (hX : X (ix2 b p) = BitVec.ofNat 32 nx)
    (hY : Y (ix2 b p) = BitVec.ofNat 32 ny) :
    places B X Y (ix3 b p 0) = BitVec.ofNat 32 b ∧ places B X Y (ix3 b p 1) = BitVec.ofNat 32 nx
      ∧ places B X Y (ix3 b p 2) = BitVec.ofNat 32 ny := by
  unfold places
  refine ⟨?_, ?_, ?_⟩
  · pointwise
    rw [hB]
    exact wrap_word b 2 (by omega)
  · pointwise
    rw [hX]
    exact wrap_word nx 384 (by omega)
  · pointwise
    rw [hY]
    exact wrap_word ny 384 (by omega)

/-- A gather at stored cells: the image at the cell. -/
theorem fetch_apply (x : FVec Ideal S2x384x384x3 .f32) (B : IVec S2x1 32) (X Y : IVec S2x331776 32) (b : Fin 2)
    (p : Fin 331776) (c : Fin 3) (nx ny : ℕ)
    (hx : nx < 384) (hy : ny < 384) (hB : B (ix2 b 0) = BitVec.ofNat 32 b) (hX : X (ix2 b p) = BitVec.ofNat 32 nx)
    (hY : Y (ix2 b p) = BitVec.ofNat 32 ny) :
    Host.gather gather_S2x384x384x3_S2x331776x3_S2x331776x3_2_012_n_n_012_2_1113 x (places B X Y) (ix3 b p c)
      = x (ix4 b ⟨nx, hx⟩ ⟨ny, hy⟩ c) := by
  obtain ⟨e0, e1, e2⟩ := places_apply B X Y b p nx ny hx hy hB hX hY
  rw [gather_apply]
  simp only [e0, e1, e2, toInt_word b (by omega), toInt_word nx (by omega), toInt_word ny (by omega), Int.toNat_natCast]
  refine congrArg x ?_
  funext a
  refine Fin.ext ?_
  fin_cases a
  · exact Nat.min_eq_left (by omega)
  · exact Nat.min_eq_left (by omega)
  · exact Nat.min_eq_left (by omega)
  · rfl

/-- One of the four columns of corner reads. -/
abbrev readColumn (x : FVec Ideal S2x384x384x3 .f32) (B : IVec S2x1 32) (X Y : IVec S2x331776 32) : FVec Ideal S1990656x1 .f32 :=
  broadcastInDim S1990656x1 ![0] bcast_S1990656_S1990656x1_0 (shapeCast S1990656
    (Host.gather gather_S2x384x384x3_S2x331776x3_S2x331776x3_2_012_n_n_012_2_1113 x (places B X Y)) shapeCasts_S2x331776x3_S1990656)

/-- The reference's list of reads is four columns side by side. -/
theorem reads_eq (V0 : Valuation τ sig (Elt Ideal)) :
    res_main_v164 V0 = concatenate S1990656x4 1 [
      ⟨S1990656x1, readColumn (res_main_v43 V0) (res_main_v59 V0) (res_main_v54 V0) (res_main_v57 V0)⟩,
      ⟨S1990656x1, readColumn (res_main_v43 V0) (res_main_v59 V0) (res_main_v54 V0) (res_main_v56 V0)⟩,
      ⟨S1990656x1, readColumn (res_main_v43 V0) (res_main_v59 V0) (res_main_v55 V0) (res_main_v57 V0)⟩,
      ⟨S1990656x1, readColumn (res_main_v43 V0) (res_main_v59 V0) (res_main_v55 V0) (res_main_v56 V0)⟩]
      concatenates_S1990656x1_S1990656x1_S1990656x1_S1990656x1_S1990656x4_d1 := rfl

/-- The row of the list of reads that holds channel `c` of place `p` in batch `b`. -/
def line (b : Fin 2) (p : Fin 331776) (c : Fin 3) : Fin 1990656 := ⟨(b * 331776 + p) * 3 + c, by omega⟩

/-- A column of reads at one line is the gather at that place and channel. -/
theorem readColumn_apply (x : FVec Ideal S2x384x384x3 .f32) (B : IVec S2x1 32) (X Y : IVec S2x331776 32) (b : Fin 2)
    (p : Fin 331776) (c : Fin 3) :
    readColumn x B X Y (ix2 (line b p c) 0)
      = Host.gather gather_S2x384x384x3_S2x331776x3_S2x331776x3_2_012_n_n_012_2_1113 x (places B X Y) (ix3 b p c) := by
  unfold readColumn
  generalize Host.gather gather_S2x384x384x3_S2x331776x3_S2x331776x3_2_012_n_n_012_2_1113 x (places B X Y) = u
  refine (?_ : _ = shapeCast S1990656 u shapeCasts_S2x331776x3_S1990656 (ix1 (line b p c))).trans ?_
  · pointwise
  refine shapeCast_apply _ _ _ _ ?_
  rw [Shape.rowMajor_val_three, Shape.rowMajor_val_one]
  simp [line]

/-- Column `w` of the list of reads, by the row and column cells it uses. -/
theorem reads_apply (V0 : Valuation τ sig (Elt Ideal)) (r : Fin 1990656) (w : Fin 4) :
    res_main_v164 V0 (ix2 r w) = readColumn (res_main_v43 V0) (res_main_v59 V0)
      (if w.val / 2 = 0 then res_main_v54 V0 else res_main_v55 V0) (if w.val % 2 = 0 then res_main_v57 V0 else res_main_v56 V0) (ix2 r 0) := by
  rw [reads_eq]
  generalize res_main_v54 V0 = x0
  generalize res_main_v55 V0 = x1
  generalize res_main_v56 V0 = y0
  generalize res_main_v57 V0 = y1
  fin_cases w <;> pointwise <;> rfl

/-- The image with its channel last. -/
theorem image_apply (V0 : Valuation τ sig (Elt Ideal)) (b : Fin 2) (y x : Fin 384) (c : Fin 3) :
    res_main_v43 V0 (ix4 b y x c) = (V0 (Proc.devRef .tc main_arg0) : FVec Ideal S2x3x384x384 .f32) (ix4 b c y x) := by
  unfold res_main_v43
  pointwise

/-- The list of batch numbers. -/
theorem batch_apply (V0 : Valuation τ sig (Elt Ideal)) (b : Fin 2) :
    res_main_v59 V0 (ix2 b 0) = BitVec.ofNat 32 b := by
  unfold res_main_v59
  pointwise

/-- The two offset arrays hold, in batch `b`, real numbers from zero up to two. -/
structure Held (V0 : Valuation τ sig (Elt Ideal)) (b : Fin 2) (ox oy : Fin 9 → Fin 192 → Fin 192 → ℝ) : Prop where
  x_eq : ∀ k i j, (V0 (Proc.devRef .tc main_arg2) : FVec Ideal S2x9x192x192 .f32) (ix4 b k i j) = (ox k i j : EReal)
  y_eq : ∀ k i j, (V0 (Proc.devRef .tc main_arg3) : FVec Ideal S2x9x192x192 .f32) (ix4 b k i j) = (oy k i j : EReal)
  x_nonneg : ∀ k i j, 0 ≤ ox k i j
  x_lt : ∀ k i j, ox k i j < 2
  y_nonneg : ∀ k i j, 0 ≤ oy k i j
  y_lt : ∀ k i j, oy k i j < 2

/-- The image of batch `b` among the reference's arguments. -/
def image (V0 : Valuation τ sig (Elt Ideal)) (b : Fin 2) (c : Fin 3) (y x : Fin 384) : EReal :=
  (V0 (Proc.devRef .tc main_arg0) : FVec Ideal S2x3x384x384 .f32) (ix4 b c y x)

/-- Column `w` of a line of reads is the corner of that number, in the channel of the line. -/
theorem corner_apply (V0 : Valuation τ sig (Elt Ideal)) (b : Fin 2) (ox oy : Fin 9 → Fin 192 → Fin 192 → ℝ) (h : Held V0 b ox oy)
    (i j : Fin 192) (k : Fin 9) (f : ℕ) (hf : f < 12) :
    res_main_v164 V0 (ix2 (line b (pos i j k) ⟨f / 4, by omega⟩) ⟨f % 4, by omega⟩)
      = corner (image V0 b) ox oy k i j f hf := by
  have hsx := step_le (ox k i j)
  have hsy := step_le (oy k i j)
  have hX : (if f % 4 / 2 = 0 then res_main_v54 V0 else res_main_v55 V0 : IVec S2x331776 32) (ix2 b (pos i j k))
      = BitVec.ofNat 32 (j + (2 + k / 3 + f % 4 / 2) + step (ox k i j)) := by
    split_ifs with e
    · rw [x0_apply (h.x_nonneg k i j) (h.x_lt k i j) (h.x_eq k i j)]
      congr 1
      omega
    · rw [x1_apply (h.x_nonneg k i j) (h.x_lt k i j) (h.x_eq k i j)]
      congr 1
      omega
  have hY : (if f % 4 % 2 = 0 then res_main_v57 V0 else res_main_v56 V0 : IVec S2x331776 32) (ix2 b (pos i j k))
      = BitVec.ofNat 32 (j + (2 + k % 3 + (1 - f % 4 % 2)) + step (oy k i j)) := by
    split_ifs with e
    · rw [y1_apply (h.y_nonneg k i j) (h.y_lt k i j) (h.y_eq k i j)]
      congr 1
      omega
    · rw [y0_apply (h.y_nonneg k i j) (h.y_lt k i j) (h.y_eq k i j)]
      congr 1
      omega
  rw [reads_apply, readColumn_apply]
  refine (fetch_apply _ _ _ _ b _ _ _ _ (by omega) (by omega) (batch_apply V0 b) hX hY).trans ?_
  exact image_apply V0 b _ _ _

end Cert.ReferenceIdeal.Point

end
-- ==== Proof.RefValue.lean ====
module

public import proofs.«01_k».proof.Proof.RefImage

@[expose] public section

/-! The reference's weights and products, read at an index. -/

set_option maxRecDepth 16384

noncomputable section

namespace Cert.ReferenceIdeal.Point

open Idealize.ShloMosaic Idealize.ShloMosaic.StableHlo
open Cert.ReferenceIdeal Cert.ReferenceIdeal.Gen Cert.ReferenceIdeal.Value Cert.Bridge

/-- Two lists side by side, read at a column. -/
theorem sides_apply (u v : FVec Ideal S2x331776 .f32) (b : Fin 2) (q : Fin 663552) :
    concatenate S2x663552 1 [⟨S2x331776, u⟩, ⟨S2x331776, v⟩] concatenates_S2x331776_S2x331776_S2x663552_d1 (ix2 b q)
      = if h : q.val < 331776 then u (ix2 b ⟨q, h⟩) else v (ix2 b ⟨q - 331776, by omega⟩) := by
  by_cases h : q.val < 331776 <;> pointwise

/-- The row of the list of weights of place `p` in batch `b`. -/
def row (b : Fin 2) (p : Fin 331776) : Fin 663552 := ⟨b * 331776 + p, by omega⟩

/-- The row weights as the first product takes them. -/
theorem rowWeights_apply (w : FVec Ideal S2x663552 .f32) (b : Fin 2) (p : Fin 331776) (a e : Fin 2) :
    shapeCast S663552x2x1x2 (broadcastInDim S1x663552x2x1x1x1x1x2 ![0, 1, 2, 3, 4, 5, 6, 7] bcast_S1x663552x1x1x1x1x1x2_S1x663552x2x1x1x1x1x2_0_1_2_3_4_5_6_7
      (shapeCast S1x663552x1x1x1x1x1x2 (shapeCast S663552x1x1x2 w shapeCasts_S2x663552_S663552x1x1x2) shapeCasts_S663552x1x1x2_S1x663552x1x1x1x1x1x2))
      shapeCasts_S1x663552x2x1x1x1x1x2_S663552x2x1x2 (ix4 (row b p) a 0 e) = w (ix2 b ⟨2 * p + e, by omega⟩) := by
  have e1 : (⟨(row b p).val / 331776, by omega⟩ : Fin 2) = b := Fin.ext (by simp only [row]; omega)
  have e2 : (row b p).val % 331776 * 2 + e.val = 2 * p.val + e.val := by simp only [row]; omega
  pointwise
  simp only [e1, e2]

/-- The column weights as the second product takes them. -/
theorem colWeights_apply (w : FVec Ideal S2x663552 .f32) (b : Fin 2) (p : Fin 331776) (a : Fin 2) :
    shapeCast S663552x2x1 (shapeCast S663552x1x2x1 w shapeCasts_S2x663552_S663552x1x2x1) shapeCasts_S663552x1x2x1_S663552x2x1 (ix3 (row b p) a 0)
     = w (ix2 b ⟨2 * p + a, by omega⟩) := by
  have e1 : (⟨(row b p).val / 331776, by omega⟩ : Fin 2) = b := Fin.ext (by simp only [row]; omega)
  have e2 : (row b p).val % 331776 * 2 + a.val = 2 * p.val + a.val := by simp only [row]; omega
  pointwise
  simp only [e1, e2]

/-- The reads as the first product takes them: entry `6 a + 3 e + c` of the twelve of a place. -/
theorem reads4_apply (v : FVec Ideal S1990656x4 .f32) (b : Fin 2) (p : Fin 331776) (a e : Fin 2) (c : Fin 3) :
    shapeCast S663552x2x2x3 v shapeCasts_S1990656x4_S663552x2x2x3 (ix4 (row b p) a e c)
     = v (ix2 (line b p ⟨(6 * a + 3 * e + c) / 4, by omega⟩) ⟨(6 * a + 3 * e + c) % 4, by omega⟩) := by
  refine shapeCast_apply _ _ _ _ ?_
  rw [Shape.rowMajor_val_two, Shape.rowMajor_val_four]
  simp [line, row]
  omega

/-- The two products, at one row and channel. -/
theorem dots_apply (l : FVec Ideal S663552x2x1x2 .f32) (r : FVec Ideal S663552x2x2x3 .f32) (y : FVec Ideal S663552x2x1 .f32) (R : Fin 663552)
    (c : Fin 3) :
    shapeCast S663552x3 (Host.dotGeneral dot_S663552x3x1x2_S663552x2x1_S663552x3x1x1_3_1_12_2_0_0 none
      (transpose S663552x3x1x2 [0, 3, 2, 1] (Host.dotGeneral dot_S663552x2x1x2_S663552x2x2x3_S663552x2x1x3_3_2_2_3_01_01 none l r)
        transposes_S663552x2x1x3_S663552x3x1x2_0_3_2_1) y) shapeCasts_S663552x3x1x1_S663552x3 (ix2 R c)
    = ∑ a : Fin 2, (∑ e : Fin 2, l (ix4 R a 0 e) * r (ix4 R a e c)) * y (ix3 R a 0) := by
  pointwise

/-- The weights of the row positions. -/
abbrev xWeights (V0 : Valuation τ sig (Elt Ideal)) : FVec Ideal S2x663552 .f32 :=
  concatenate S2x663552 1 [⟨S2x331776, subf (sitofp .f32 (res_main_v55 V0)) (res_main_v44 V0)⟩,
    ⟨S2x331776, subf (res_main_v44 V0) (sitofp .f32 (res_main_v54 V0))⟩] concatenates_S2x331776_S2x331776_S2x663552_d1

/-- The weights of the column positions. -/
abbrev yWeights (V0 : Valuation τ sig (Elt Ideal)) : FVec Ideal S2x663552 .f32 :=
  concatenate S2x663552 1 [⟨S2x331776, subf (sitofp .f32 (res_main_v57 V0)) (res_main_v45 V0)⟩,
    ⟨S2x331776, subf (res_main_v45 V0) (sitofp .f32 (res_main_v56 V0))⟩] concatenates_S2x331776_S2x331776_S2x663552_d1

/-- A difference at an element. -/
theorem subf_apply {s : Shape} (x y : FVec Ideal s .f32) (i : s.Idx) : subf x y i = (x i - y i : EReal) := rfl

/-- A conversion at an element. -/
theorem sitofp_apply {s : Shape} (x : IVec s 32) (i : s.Idx) : sitofp .f32 x i = FloatOps.sitofp (F := Ideal) .f32 (x i) := rfl

/-- A cell and the next are one apart. -/
theorem next_sub (n : ℕ) : IntOp.subi (BitVec.ofNat 32 (n + 1)) (BitVec.ofNat 32 n) = 1#32 := by
  rw [← next_word]
  show BitVec.ofNat 32 n + 1#32 - BitVec.ofNat 32 n = 1#32
  rw [BitVec.add_comm, BitVec.add_sub_cancel]

section Weights

variable (V0 : Valuation τ sig (Elt Ideal)) (b : Fin 2) (ox oy : Fin 9 → Fin 192 → Fin 192 → ℝ) (h : Held V0 b ox oy)
  (i j : Fin 192) (k : Fin 9)

/-- Where a weight of the list comes from: the place of the flat list its column falls on. -/
theorem pos_source (e : ℕ) (he : e < 2) :
    (2 * (pos i j k).val + e) % 331776
      = (pos ⟨2 * (i % 96) + j / 96, by omega⟩ ⟨2 * (j % 96) + (2 * k + e) / 9, by omega⟩ ⟨(2 * k + e) % 9, by omega⟩).val := by
  simp only [pos]
  omega

/-- A list of weights, given by complements of fractions and then fractions, holds the weights of Spec.lean. -/
theorem weights_apply (u v : FVec Ideal S2x331776 .f32) (o : Fin 9 → Fin 192 → Fin 192 → ℝ)
    (hu : ∀ i j k, u (ix2 b (pos i j k)) = ((1 - part (o k i j) : ℝ) : EReal))
    (hv : ∀ i j k, v (ix2 b (pos i j k)) = ((part (o k i j) : ℝ) : EReal)) (e : ℕ) (he : e < 2) :
    concatenate S2x663552 1 [⟨S2x331776, u⟩, ⟨S2x331776, v⟩] concatenates_S2x331776_S2x331776_S2x663552_d1
      (ix2 b ⟨2 * (pos i j k).val + e, by omega⟩) = ((weight o k e he i j : ℝ) : EReal) := by
  have hp := pos_source i j k e he
  have hi : 2 * (pos i j k).val + e < 331776 ↔ i.val < 96 := by simp only [pos]; omega
  rw [sides_apply]
  unfold weight source
  split_ifs with h1 h2 h2
  · rw [← hu]
    refine congrArg (fun p => u (ix2 b p)) (Fin.ext ?_)
    rw [← hp]
    exact (Nat.mod_eq_of_lt h1).symm
  · exact absurd (hi.mp h1) h2
  · exact absurd (hi.mpr h2) h1
  · rw [← hv]
    refine congrArg (fun p => v (ix2 b p)) (Fin.ext ?_)
    rw [← hp]
    dsimp only at h1 ⊢
    omega

include h

/-- The first list of the row weights: complements. -/
theorem xUpper_apply : subf (sitofp .f32 (res_main_v55 V0)) (res_main_v44 V0) (ix2 b (pos i j k))
    = ((1 - part (ox k i j) : ℝ) : EReal) := by
  have hs := step_le (ox k i j)
  rw [subf_apply, sitofp_apply, x1_apply (h.x_nonneg k i j) (h.x_lt k i j) (h.x_eq k i j), x_apply V0 b i j k _ (h.x_eq k i j),
    real_word _ (by omega), ← EReal.coe_sub]
  unfold part
  congr 1
  push_cast
  ring

/-- The second list of the row weights: fractions. -/
theorem xLower_apply : subf (res_main_v44 V0) (sitofp .f32 (res_main_v54 V0)) (ix2 b (pos i j k))
    = ((part (ox k i j) : ℝ) : EReal) := by
  have hs := step_le (ox k i j)
  rw [subf_apply, sitofp_apply, x0_apply (h.x_nonneg k i j) (h.x_lt k i j) (h.x_eq k i j), x_apply V0 b i j k _ (h.x_eq k i j),
    real_word _ (by omega), ← EReal.coe_sub]
  unfold part
  congr 1
  push_cast
  ring

/-- The first list of the column weights: complements. -/
theorem yUpper_apply : subf (sitofp .f32 (res_main_v57 V0)) (res_main_v45 V0) (ix2 b (pos i j k))
    = ((1 - part (oy k i j) : ℝ) : EReal) := by
  have hs := step_le (oy k i j)
  rw [subf_apply, sitofp_apply, y1_apply (h.y_nonneg k i j) (h.y_lt k i j) (h.y_eq k i j), y_apply V0 b i j k _ (h.y_eq k i j),
    real_word _ (by omega), ← EReal.coe_sub]
  unfold part
  congr 1
  push_cast
  ring

/-- The second list of the column weights: fractions. -/
theorem yLower_apply : subf (res_main_v45 V0) (sitofp .f32 (res_main_v56 V0)) (ix2 b (pos i j k))
    = ((part (oy k i j) : ℝ) : EReal) := by
  have hs := step_le (oy k i j)
  rw [subf_apply, sitofp_apply, y0_apply (h.y_nonneg k i j) (h.y_lt k i j) (h.y_eq k i j), y_apply V0 b i j k _ (h.y_eq k i j),
    real_word _ (by omega), ← EReal.coe_sub]
  unfold part
  congr 1
  push_cast
  ring

/-- The row weights of a place. -/
theorem xWeights_apply (e : ℕ) (he : e < 2) :
    xWeights V0 (ix2 b ⟨2 * (pos i j k).val + e, by omega⟩) = ((weight ox k e he i j : ℝ) : EReal) :=
  weights_apply b i j k _ _ ox (xUpper_apply V0 b ox oy h) (xLower_apply V0 b ox oy h) e he

/-- The column weights of a place. -/
theorem yWeights_apply (e : ℕ) (he : e < 2) :
    yWeights V0 (ix2 b ⟨2 * (pos i j k).val + e, by omega⟩) = ((weight oy k e he i j : ℝ) : EReal) :=
  weights_apply b i j k _ _ oy (yUpper_apply V0 b ox oy h) (yLower_apply V0 b ox oy h) e he

/-- The area of a cell is one: so is its inverse. -/
theorem area_apply :
    Host.divf (broadcastInDim S2x331776 ![] bcast_S_S2x331776 (constant (F := Ideal) S_ .f32 0x3F800000#32))
      (sitofp .f32 (muli (subi (res_main_v55 V0) (res_main_v54 V0)) (subi (res_main_v57 V0) (res_main_v56 V0))))
      (ix2 b (pos i j k)) = 1 := by
  have ex0 := x0_apply (h.x_nonneg k i j) (h.x_lt k i j) (h.x_eq k i j)
  have ex1 := x1_apply (h.x_nonneg k i j) (h.x_lt k i j) (h.x_eq k i j)
  have ey0 := y0_apply (h.y_nonneg k i j) (h.y_lt k i j) (h.y_eq k i j)
  have ey1 := y1_apply (h.y_nonneg k i j) (h.y_lt k i j) (h.y_eq k i j)
  generalize res_main_v54 V0 = x0 at ex0 ⊢
  generalize res_main_v55 V0 = x1 at ex1 ⊢
  generalize res_main_v56 V0 = y0 at ey0 ⊢
  generalize res_main_v57 V0 = y1 at ey1 ⊢
  pointwise
  rw [ex0, ex1, ey0, ey1, next_sub, next_sub]
  refine (congrArg (Ideal.div 1) (?_ : _ = ((1 : ℝ) : EReal))).trans ?_
  · have := real_word 1 (by omega)
    rw [Nat.cast_one] at this
    exact this
  · rw [Ideal.div_coe one_ne_zero]
    simp

end Weights

end Cert.ReferenceIdeal.Point

end
-- ==== Proof.RefTotal.lean ====
module

public import proofs.«01_k».proof.Proof.RefValue

@[expose] public section

/-! The reference's result, read at an index: the formula of Spec.lean. -/

set_option maxRecDepth 16384

noncomputable section

namespace Cert.ReferenceIdeal.Point

open Idealize.ShloMosaic Idealize.ShloMosaic.StableHlo
open Cert.ReferenceIdeal Cert.ReferenceIdeal.Gen Cert.ReferenceIdeal.Value Cert.Bridge

/-- The fraction of an offset from zero up to two lies between zero and one. -/
theorem part_mem (o : ℝ) (h0 : 0 ≤ o) (h2 : o < 2) : 0 ≤ part o ∧ part o ≤ 1 := by
  unfold part step
  split_ifs with h
  · constructor <;> push_cast <;> linarith
  · constructor <;> push_cast <;> linarith

/-- No weight is negative. -/
theorem weight_nonneg (o : Fin 9 → Fin 192 → Fin 192 → ℝ) (h0 : ∀ k i j, 0 ≤ o k i j) (h2 : ∀ k i j, o k i j < 2)
    (k : Fin 9) (e : ℕ) (he : e < 2) (i j : Fin 192) : 0 ≤ weight o k e he i j := by
  have hp := part_mem (source o k e he i j) (h0 _ _ _) (h2 _ _ _)
  unfold weight
  split_ifs
  · linarith [hp.2]
  · exact hp.1

/-- A real factor that is not negative goes into a sum of two terms, each already weighted by a real number. -/
theorem spread (p q r : ℝ) (hr : 0 ≤ r) (A B : EReal) :
    ((p : EReal) * A + (q : EReal) * B) * (r : EReal) = ((p * r : ℝ) : EReal) * A + ((q * r : ℝ) : EReal) * B := by
  rw [EReal.right_distrib_of_nonneg_of_ne_top (EReal.coe_nonneg.mpr hr) (EReal.coe_ne_top r), EReal.coe_mul, EReal.coe_mul,
    mul_right_comm, mul_right_comm (q : EReal)]

/-- The two products of the reference, row by row: the weights of the rows, the reads, the weights of the columns. -/
abbrev products (wx wy : FVec Ideal S2x663552 .f32) (v : FVec Ideal S1990656x4 .f32) : FVec Ideal S663552x3 .f32 :=
  shapeCast S663552x3 (Host.dotGeneral dot_S663552x3x1x2_S663552x2x1_S663552x3x1x1_3_1_12_2_0_0 none
    (transpose S663552x3x1x2 [0, 3, 2, 1] (Host.dotGeneral dot_S663552x2x1x2_S663552x2x2x3_S663552x2x1x3_3_2_2_3_01_01 none
      (shapeCast S663552x2x1x2 (broadcastInDim S1x663552x2x1x1x1x1x2 ![0, 1, 2, 3, 4, 5, 6, 7] bcast_S1x663552x1x1x1x1x1x2_S1x663552x2x1x1x1x1x2_0_1_2_3_4_5_6_7
        (shapeCast S1x663552x1x1x1x1x1x2 (shapeCast S663552x1x1x2 wx shapeCasts_S2x663552_S663552x1x1x2) shapeCasts_S663552x1x1x2_S1x663552x1x1x1x1x1x2))
        shapeCasts_S1x663552x2x1x1x1x1x2_S663552x2x1x2)
      (shapeCast S663552x2x2x3 v shapeCasts_S1990656x4_S663552x2x2x3))
      transposes_S663552x2x1x3_S663552x3x1x2_0_3_2_1)
    (shapeCast S663552x2x1 (shapeCast S663552x1x2x1 wy shapeCasts_S2x663552_S663552x1x2x1) shapeCasts_S663552x1x2x1_S663552x2x1))
    shapeCasts_S663552x3x1x1_S663552x3

/-- The inverse areas of the cells. -/
abbrev areas (V0 : Valuation τ sig (Elt Ideal)) : FVec Ideal S2x331776 .f32 :=
  Host.divf (broadcastInDim S2x331776 ![] bcast_S_S2x331776 (constant (F := Ideal) S_ .f32 0x3F800000#32))
    (sitofp .f32 (muli (subi (res_main_v55 V0) (res_main_v54 V0)) (subi (res_main_v57 V0) (res_main_v56 V0))))

/-- The sum over the taps, of given products and inverse areas. -/
abbrev tapSum (ker : FVec Ideal S2x9x192x192 .f32) (s : FVec Ideal S2x331776 .f32) (t : FVec Ideal S663552x3 .f32) : FVec Ideal S2x192x192x3 .f32 :=
  Host.reduceAdd (mulf (broadcastInDim S2x192x192x9x3 ![0, 1, 2, 3, 4] bcast_S2x192x192x9x1_S2x192x192x9x3_0_1_2_3_4
      (broadcastInDim S2x192x192x9x1 ![0, 1, 2, 3] bcast_S2x192x192x9_S2x192x192x9x1_0_1_2_3
        (transpose S2x192x192x9 [0, 2, 3, 1] ker transposes_S2x9x192x192_S2x192x192x9_0_2_3_1)))
    (shapeCast S2x192x192x9x3 (mulf (broadcastInDim S663552x3 ![0, 1] bcast_S663552x1_S663552x3_0_1
      (broadcastInDim S663552x1 ![0] bcast_S663552_S663552x1_0 (shapeCast S663552 s shapeCasts_S2x331776_S663552))) t)
      shapeCasts_S663552x3_S2x192x192x9x3))
    (constant S_ .f32 0x00000000#32) reducesTo_S2x192x192x9x3_S2x192x192x3_d3 h_S_

/-- The sum over the taps times 255, in the names above. -/
theorem scaled_eq (V0 : Valuation τ sig (Elt Ideal)) :
    res_main_v190 V0 = mulf (tapSum (V0 (Proc.devRef .tc main_arg1)) (areas V0) (products (xWeights V0) (yWeights V0) (res_main_v164 V0)))
      (broadcastInDim S2x192x192x3 ![] bcast_S_S2x192x192x3 (constant S_ .f32 0x437F0000#32)) := rfl

/-- The kernel weights of batch `b` among the reference's arguments. -/
def kernel (V0 : Valuation τ sig (Elt Ideal)) (b : Fin 2) (k : Fin 9) (i j : Fin 192) : EReal :=
  (V0 (Proc.devRef .tc main_arg1) : FVec Ideal S2x9x192x192 .f32) (ix4 b k i j)

/-- The soft rounding as the reference spells it. -/
abbrev rounded (w : FVec Ideal S2x192x192x3 .f32) : FVec Ideal S2x192x192x3 .f32 :=
  subf w (mulf (broadcastInDim S2x192x192x3 ![] bcast_S_S2x192x192x3 (constant S_ .f32 0x3F800000#32))
    (Host.divf (Host.sin (mulf (broadcastInDim S2x192x192x3 ![] bcast_S_S2x192x192x3 (constant S_ .f32 0x40C90FDB#32)) w))
      (broadcastInDim S2x192x192x3 ![] bcast_S_S2x192x192x3 (constant S_ .f32 0x40C90FDB#32))))

/-- The products at place `p`: the sums of its reads, weighted by the row and the column weights of its row of the lists. -/
theorem products_apply (wx wy : FVec Ideal S2x663552 .f32) (v : FVec Ideal S1990656x4 .f32) (b : Fin 2) (p : Fin 331776) (c : Fin 3) :
    products wx wy v (ix2 (row b p) c) = ∑ a : Fin 2, (∑ e : Fin 2, wx (ix2 b ⟨2 * p + e, by omega⟩)
        * v (ix2 (line b p ⟨(6 * a + 3 * e + c) / 4, by omega⟩) ⟨(6 * a + 3 * e + c) % 4, by omega⟩)) * wy (ix2 b ⟨2 * p + a, by omega⟩) := by
  refine (dots_apply _ _ _ _ _).trans ?_
  refine Finset.sum_congr rfl fun a _ => congrArg₂ (· * ·) (Finset.sum_congr rfl fun e _ => congrArg₂ (· * ·) ?_ ?_) ?_
  · exact rowWeights_apply wx b p a e
  · exact reads4_apply v b p a e c
  · exact colWeights_apply wy b p a

/-- The sum over the taps at one element. -/
theorem tapSum_apply (ker : FVec Ideal S2x9x192x192 .f32) (s : FVec Ideal S2x331776 .f32) (t : FVec Ideal S663552x3 .f32)
    (b : Fin 2) (i j : Fin 192) (c : Fin 3) :
    tapSum ker s t (ix4 b i j c)
      = ∑ k : Fin 9, ker (ix4 b k i j) * (s (ix2 b (pos i j k)) * t (ix2 (row b (pos i j k)) c)) := by
  have e1 : ∀ k : Fin 9, (⟨(b.val * 331776 + i.val * 1728 + j.val * 9 + k.val) % 331776, by omega⟩ : Fin 331776) = pos i j k :=
    fun k => Fin.ext (by simp only [pos]; omega)
  have e2 : ∀ k : Fin 9, (⟨b.val * 331776 + i.val * 1728 + j.val * 9 + k.val, by omega⟩ : Fin 663552) = row b (pos i j k) :=
    fun k => Fin.ext (by simp only [row, pos]; omega)
  unfold tapSum
  pointwise
  simp only [e1, e2]

section Result

variable (V0 : Valuation τ sig (Elt Ideal)) (b : Fin 2) (ox oy : Fin 9 → Fin 192 → Fin 192 → ℝ) (h : Held V0 b ox oy)
  (i j : Fin 192) (c : Fin 3)

include h

/-- The products at a place are the interpolated value. -/
theorem sample_apply (k : Fin 9) :
    products (xWeights V0) (yWeights V0) (res_main_v164 V0) (ix2 (row b (pos i j k)) c) = sample (image V0 b) ox oy c k i j := by
  rw [products_apply]
  have hy := weight_nonneg oy h.y_nonneg h.y_lt k
  have hc : ∀ (a e : Fin 2), res_main_v164 V0 (ix2 (line b (pos i j k) ⟨(6 * a + 3 * e + c) / 4, by omega⟩) ⟨(6 * a + 3 * e + c) % 4, by omega⟩)
      = corner (image V0 b) ox oy k i j (6 * a + 3 * e + c) (by omega) := fun a e => corner_apply V0 b ox oy h i j k _ (by omega)
  have hw : ∀ e : Fin 2, xWeights V0 (ix2 b ⟨2 * (pos i j k).val + e, by omega⟩) = ((weight ox k e e.isLt i j : ℝ) : EReal) :=
    fun e => xWeights_apply V0 b ox oy h i j k e e.isLt
  have hv : ∀ e : Fin 2, yWeights V0 (ix2 b ⟨2 * (pos i j k).val + e, by omega⟩) = ((weight oy k e e.isLt i j : ℝ) : EReal) :=
    fun e => yWeights_apply V0 b ox oy h i j k e e.isLt
  simp only [hc, hw, hv]
  rw [Fin.sum_univ_two, Fin.sum_univ_two, Fin.sum_univ_two]
  refine (congrArg₂ (· + ·) (spread _ _ _ (hy 0 (by omega) i j) _ _) (spread _ _ _ (hy 1 (by omega) i j) _ _)).trans ?_
  rw [← add_assoc]
  have same : ∀ f g (hf : f < 12) (hg : g < 12), f = g → corner (image V0 b) ox oy k i j f hf = corner (image V0 b) ox oy k i j g hg := by
    intro f g hf hg e
    subst e
    rfl
  refine congrArg₂ (· + ·) (congrArg₂ (· + ·) (congrArg₂ (· + ·) ?_ ?_) ?_) ?_ <;>
    exact congrArg (_ * ·) (same _ _ _ _ (by simp))

/-- The sum over the taps, times 255. -/
theorem scaled_apply : res_main_v190 V0 (ix4 b i j c)
    = total (image V0 b) (kernel V0 b) ox oy c i j * Ideal.ofBits .f32 0x437F0000#32 := by
  rw [scaled_eq]
  refine congrArg₂ (· * ·) ?_ rfl
  refine (tapSum_apply _ _ _ b i j c).trans ?_
  refine Finset.sum_congr rfl fun k _ => congrArg (kernel V0 b k i j * ·) ?_
  exact (congrArg₂ (· * ·) (area_apply V0 b ox oy h i j k) (sample_apply V0 b ox oy h i j c k)).trans (one_mul _)

/-- The reference's result at one element is the soft rounding of the total. -/
theorem result_apply : rounded (res_main_v190 V0) (ix4 b i j c) = soft (total (image V0 b) (kernel V0 b) ox oy c i j) := by
  have e := scaled_apply V0 b ox oy h i j c
  generalize res_main_v190 V0 = w at e ⊢
  generalize total (image V0 b) (kernel V0 b) ox oy c i j = a at e ⊢
  unfold rounded soft
  rw [← e]
  pointwise
  rw [lit_two_pi, Ideal.div_coe (by norm_num)]
  norm_num

end Result

end Cert.ReferenceIdeal.Point

end
-- ==== Proof.Range.lean ====
module

public import proofs.«01_k».proof.Pre_offsets_in_range
public import proofs.«01_k».proof.Proof.Consts

@[expose] public section

/-! What the precondition says: both offset arrays hold real numbers from zero up to two. -/

noncomputable section

namespace Cert.Pre_offsets_in_range

open Idealize.ShloMosaic Cert.Bridge

/-- The function's side conditions hold. -/
theorem facts : Facts := ⟨by decide⟩

/-- An extended real that compares at least zero and below two is a real number in that range. -/
theorem real_of_cmp (x : EReal) (h0 : Ideal.cmp .oge x (Ideal.ofBits .f32 0x00000000#32) = 1#1)
    (h2 : Ideal.cmp .olt x (Ideal.ofBits .f32 0x40000000#32) = 1#1) :
    ∃ o : ℝ, x = (o : EReal) ∧ 0 ≤ o ∧ o < 2 := by
  rw [lit_zero] at h0
  rw [lit_two] at h2
  have g0 : 0 ≤ x := by
    by_contra hn
    simp [Ideal.cmp, hn] at h0
  have g2 : x < ((2 : ℝ) : EReal) := by
    by_contra hn
    simp only [Ideal.cmp, hn, decide_false] at h2
    exact absurd h2 (by decide)
  induction x using EReal.rec with
  | bot => exact absurd g0 (by simp)
  | coe o => exact ⟨o, rfl, EReal.coe_nonneg.mp g0, EReal.coe_lt_coe_iff.mp g2⟩
  | top => exact absurd g2 (by simp)

/-- Two bits whose conjunction is one are both one. -/
theorem and_one (a b : BitVec 1) (h : a &&& b = 1#1) : a = 1#1 ∧ b = 1#1 := by
  revert a b
  decide

/-- Where the precondition's bits are all ones, every element of both offset arrays is a real number from zero up to two. -/
theorem unpack [Facts] (a0 : FVec Ideal S2x3x384x384 .f32) (a1 a2 a3 : FVec Ideal S2x9x192x192 .f32)
    (h : fn a0 a1 a2 a3 = fun _ => 1#1) (i : S2x9x192x192.Idx) :
    (∃ o : ℝ, (a2 i : EReal) = (o : EReal) ∧ 0 ≤ o ∧ o < 2) ∧ (∃ o : ℝ, (a3 i : EReal) = (o : EReal) ∧ 0 ≤ o ∧ o < 2) := by
  have e := congrFun h i
  obtain ⟨e1, e2⟩ := and_one _ _ e
  obtain ⟨e3, e4⟩ := and_one _ _ e1
  obtain ⟨e5, e6⟩ := and_one _ _ e3
  exact ⟨real_of_cmp _ e5 e6, real_of_cmp _ e4 e2⟩

end Cert.Pre_offsets_in_range

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.RefTotal
public import proofs.«01_k».proof.Proof.Range
public import Idealize.ShloMosaic.Adequacy
public import Idealize.ShloMosaic.Init

@[expose] public section

noncomputable section

namespace Cert.Proof

open Idealize.ShloMosaic Idealize.ShloMosaic.StableHlo Idealize.SL.Sem

/-- The reference runs, leaves its arguments unchanged, and has no semaphore. -/
theorem frame_reference : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Cert.ReferenceIdeal.Value.run (F := Ideal) m ρ)

/-- Where the precondition holds, real numbers `ox` and `oy` from zero up to two are what the offset arrays hold. -/
theorem offsets_exist (m : (ℓ : Loc Cert.KernelIdeal.nD Cert.KernelIdeal.τ Cert.KernelIdeal.sig) → Buf (Elt Ideal) ℓ)
    (h : Cert.Pre_KernelIdeal_offsets_in_range (hPre_offsets_in_range := Cert.Pre_offsets_in_range.facts) m) :
    ∃ ox oy : Dev Cert.KernelIdeal.nD → Fin 2 → Fin 9 → Fin 192 → Fin 192 → ℝ,
      (∀ c, Cert.KernelIdeal.Model.Offsets m c (ox c) (oy c))
      ∧ (∀ c b k i j, 0 ≤ ox c b k i j ∧ ox c b k i j < 2) ∧ (∀ c b k i j, 0 ≤ oy c b k i j ∧ oy c b k i j < 2) := by
  have u := fun (c : Dev Cert.KernelIdeal.nD) (b : Fin 2) (k : Fin 9) (i j : Fin 192) =>
    @Cert.Pre_offsets_in_range.unpack Cert.Pre_offsets_in_range.facts _ _ _ _ (h c) (ix4 b k i j)
  exact ⟨fun c b k i j => (u c b k i j).1.choose, fun c b k i j => (u c b k i j).2.choose,
    fun c => ⟨fun b k i j => (u c b k i j).1.choose_spec.1, fun b k i j => (u c b k i j).2.choose_spec.1⟩,
    fun c b k i j => (u c b k i j).1.choose_spec.2, fun c b k i j => (u c b k i j).2.choose_spec.2⟩

/-- The reference's result array is the kernel's, from memories that agree on the arguments. -/
theorem results_agree (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (e0 : V0 (Proc.devRef .tc Cert.ReferenceIdeal.main_arg0) = m ((c.tc : Thread Cert.KernelIdeal.nD Cert.KernelIdeal.τ).loc Cert.KernelIdeal.main_arg0))
    (e1 : V0 (Proc.devRef .tc Cert.ReferenceIdeal.main_arg1) = m ((c.tc : Thread Cert.KernelIdeal.nD Cert.KernelIdeal.τ).loc Cert.KernelIdeal.main_arg1))
    (e2 : V0 (Proc.devRef .tc Cert.ReferenceIdeal.main_arg2) = m ((c.tc : Thread Cert.KernelIdeal.nD Cert.KernelIdeal.τ).loc Cert.KernelIdeal.main_arg2))
    (e3 : V0 (Proc.devRef .tc Cert.ReferenceIdeal.main_arg3) = m ((c.tc : Thread Cert.KernelIdeal.nD Cert.KernelIdeal.τ).loc Cert.KernelIdeal.main_arg3))
    (ox oy : Fin 2 → Fin 9 → Fin 192 → Fin 192 → ℝ) (h : Cert.KernelIdeal.Model.Offsets m c ox oy)
    (hx : ∀ b k i j, 0 ≤ ox b k i j ∧ ox b k i j < 2) (hy : ∀ b k i j, 0 ≤ oy b k i j ∧ oy b k i j < 2) :
    Cert.ReferenceIdeal.Point.rounded (Cert.ReferenceIdeal.Value.res_main_v190 V0) = Cert.KernelIdeal.Model.result m c ox oy := by
  have held : ∀ b : Fin 2, Cert.ReferenceIdeal.Point.Held V0 b (ox b) (oy b) := fun b =>
    { x_eq := fun k i j => (congrFun e2 (ix4 b k i j)).trans (h.1 b k i j)
      y_eq := fun k i j => (congrFun e3 (ix4 b k i j)).trans (h.2 b k i j)
      x_nonneg := fun k i j => (hx b k i j).1
      x_lt := fun k i j => (hx b k i j).2
      y_nonneg := fun k i j => (hy b k i j).1
      y_lt := fun k i j => (hy b k i j).2 }
  have hi : ∀ b, Cert.ReferenceIdeal.Point.image V0 b = Cert.KernelIdeal.Model.imageOf m c b := fun b =>
    funext fun ch => funext fun y => funext fun x => congrFun e0 (ix4 b ch y x)
  have hk : ∀ b, Cert.ReferenceIdeal.Point.kernel V0 b = Cert.KernelIdeal.Model.kernelOf m c b := fun b =>
    funext fun k => funext fun i => funext fun j => congrFun e1 (ix4 b k i j)
  have key : ∀ (b : Fin 2) (i j : Fin 192) (ch : Fin 3),
      Cert.ReferenceIdeal.Point.rounded (Cert.ReferenceIdeal.Value.res_main_v190 V0) (ix4 b i j ch)
        = Cert.KernelIdeal.Model.result m c ox oy (ix4 b i j ch) := by
    intro b i j ch
    refine (Cert.ReferenceIdeal.Point.result_apply V0 b (ox b) (oy b) (held b) i j ch).trans ?_
    rw [hi, hk]
    rfl
  funext x
  have ex : x = ix4 (x 0) (x 1) (x 2) (x 3) := by
    funext a
    fin_cases a <;> rfl
  rw [ex]
  exact key _ _ _ _

/-- Under the precondition the kernel and the reference end with equal results. -/
theorem equation : Cert.algebraic_KernelIdeal_ReferenceIdeal_pre_offsets_in_range (hKernelIdeal := Cert.KernelIdeal.Gen.facts)
    (hReferenceIdeal := Cert.ReferenceIdeal.Gen.facts) (hPre_offsets_in_range := Cert.Pre_offsets_in_range.facts) := by
  intro m ρ m' ρ' hpre hargs
  obtain ⟨ox, oy, ho, hx, hy⟩ := offsets_exist m hpre
  refine ⟨fun c => Cert.KernelIdeal.Model.result m c (ox c) (oy c), Cert.KernelIdeal.Model.run m ρ ox oy ho, ?_⟩
  refine (θ_run _ _ _).mono (fun r h c => ⟨(h c).1.trans ?_, (h c).2⟩) (Cert.ReferenceIdeal.Value.run (F := Ideal) m' ρ')
  obtain ⟨e0, e1, e2, e3⟩ := hargs c
  exact results_agree m c _ e0 e1 e2 e3 (ox c) (oy c) (ho c) (hx c) (hy c)

/-- Everything the certificate claims. -/
theorem claim : Cert.Claim :=
  ⟨Cert.Kernel.Gen.facts, Cert.KernelIdeal.Gen.facts, Cert.ReferenceIdeal.Gen.facts, Cert.Pre_offsets_in_range.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    IdealRules.named_const.statement Cert.KernelIdeal.κ "inv_two_pi" .f32 0x3E22F983#32
      ((2097152 / 13176795 : ℝ) : EReal) rfl,
    equation⟩

end Cert.Proof

end
